-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S8x2048 : Shape := ⟨2, ![8, 2048]⟩
abbrev S_ : Shape := ⟨0, ![]⟩
abbrev S16 : Shape := ⟨1, ![16]⟩
abbrev S1x16 : Shape := ⟨2, ![1, 16]⟩

abbrev nBuf : Table → Nat
  | .hbm => 2
  | .local .scVector .vmem => 6
  | _ => 0

abbrev bufTy : (tb : Table) → Fin (nBuf tb) → BufTy
  | .hbm, ⟨0, _⟩ => ⟨S16384x2048, .f32⟩
  | .hbm, ⟨1, _⟩ => ⟨S16384x2048, .f32⟩
  | .local .scVector .vmem, ⟨0, _⟩ => ⟨S8x2048, .f32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | .local .scVector .vmem, ⟨4, _⟩ => ⟨S8x2048, .f32⟩
  | .local .scVector .vmem, ⟨5, _⟩ => ⟨S8x2048, .f32⟩
  | _, _ => ⟨S16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v4 : BitVec 32 := Scalar.addi v2 c0_i32
  let c0_i32_0 : BitVec 32 := 0#32
  ![v4.toNat, 0]
def k0_off1_at (r : Fin 10) : BitVec 32 :=
  if r.val < 5 then
    if r.val < 2 then
      if r.val < 1 then
        0#32
      else
        8#32
    else
      if r.val < 3 then
        16#32
      else
        if r.val < 4 then
          24#32
        else
          464#32
  else
    if r.val < 7 then
      if r.val < 6 then
        472#32
      else
        480#32
    else
      if r.val < 8 then
        488#32
      else
        if r.val < 9 then
          496#32
        else
          504#32
@[reducible] def k0_t1_loop : Scf.Loop 32 :=
  let c0_i32_10 : BitVec 32 := 0#32
  let c64_i32 : BitVec 32 := 64#32
  let v16 : BitVec 32 := Scalar.addi c0_i32_10 c64_i32
  let c1_i32 : BitVec 32 := 1#32
  ⟨c0_i32_10, v16, c1_i32⟩
def k0_cond1 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c6_i32 : BitVec 32 := 6#32
  let c0_i32_24 : BitVec 32 := 0#32
  let v35 : BitVec 1 := Scalar.cmpi .eq c6_i32 c0_i32_24
  let c1_i32_25 : BitVec 32 := 1#32
  let v36 : BitVec 32 := Scalar.select v35 c1_i32_25 c6_i32
  let v37 : BitVec 32 := Scalar.remsi arg22 v36
  let c0_i32_27 : BitVec 32 := 0#32
  let v39 : BitVec 1 := Scalar.cmpi .slt v37 c0_i32_27
  let c0_i32_28 : BitVec 32 := 0#32
  let v40 : BitVec 1 := Scalar.cmpi .slt v36 c0_i32_28
  let v41 : BitVec 1 := Scalar.xori v39 v40
  let c0_i32_26 : BitVec 32 := 0#32
  let v38 : BitVec 1 := Scalar.cmpi .ne v37 c0_i32_26
  let v42 : BitVec 1 := Scalar.andi v41 v38
  let v43 : BitVec 32 := Scalar.addi v37 v36
  let v44 : BitVec 32 := Scalar.select v42 v43 v37
  let c0_i32_29 : BitVec 32 := 0#32
  let v45 : BitVec 1 := Scalar.cmpi .eq v44 c0_i32_29
  let v46 : BitVec 32 := Scalar.extui v45
  let c0_i32_30 : BitVec 32 := 0#32
  let v47 : BitVec 1 := Scalar.cmpi .ne v46 c0_i32_30
  v47

def k0_off2 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c8_i32_67 : BitVec 32 := 8#32
  let v113 : BitVec 32 := Scalar.muli arg22 c8_i32_67
  let v114 : BitVec 32 := Scalar.addi v2 v113
  let c0_i32_68 : BitVec 32 := 0#32
  ![v114.toNat, 0]
@[reducible] def k0_t2_loop : Scf.Loop 32 :=
  let c0_i32_71 : BitVec 32 := 0#32
  let c32_i32 : BitVec 32 := 32#32
  let v117 : BitVec 32 := Scalar.addi c0_i32_71 c32_i32
  let c1_i32_72 : BitVec 32 := 1#32
  ⟨c0_i32_71, v117, c1_i32_72⟩
def k0_off3 (k0_t2 : Fin k0_t2_loop.trips) (c0_i32_81 : BitVec 32) : Fin 2 → Nat :=
  let c0_i32_83 : BitVec 32 := 0#32
  let v129 : Index := Scalar.indexCast c0_i32_83
  let c4_i32_80 : BitVec 32 := 4#32
  let c0_i32_71 : BitVec 32 := 0#32
  let c1_i32_72 : BitVec 32 := 1#32
  let arg23 : BitVec 32 := Scf.iv c0_i32_71 c1_i32_72 k0_t2
  let v126 : BitVec 32 := Scalar.muli c4_i32_80 arg23
  let v127 : BitVec 32 := Scalar.addi v126 c0_i32_81
  let c16_i32_82 : BitVec 32 := 16#32
  let v128 : BitVec 32 := Scalar.muli v127 c16_i32_82
  let v130 : Index := Scalar.indexCast v128
  ![0, v130.toNat]
def k0_off4 (k0_t2 : Fin k0_t2_loop.trips) (c0_i32_97 : BitVec 32) : Fin 2 → Nat :=
  let c4_i32_99 : BitVec 32 := 4#32
  let v161 : Index := Scalar.indexCast c4_i32_99
  let c4_i32_96 : BitVec 32 := 4#32
  let c0_i32_71 : BitVec 32 := 0#32
  let c1_i32_72 : BitVec 32 := 1#32
  let arg23 : BitVec 32 := Scf.iv c0_i32_71 c1_i32_72 k0_t2
  let v158 : BitVec 32 := Scalar.muli c4_i32_96 arg23
  let v159 : BitVec 32 := Scalar.addi v158 c0_i32_97
  let c16_i32_98 : BitVec 32 := 16#32
  let v160 : BitVec 32 := Scalar.muli v159 c16_i32_98
  let v162 : Index := Scalar.indexCast v160
  ![4, v162.toNat]
def k0_cond2 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c4_i32_77 : BitVec 32 := 4#32
  let v122 : BitVec 32 := Scalar.addi arg22 c4_i32_77
  let c64_i32_78 : BitVec 32 := 64#32
  let v123 : BitVec 1 := Scalar.cmpi .slt v122 c64_i32_78
  let v124 : BitVec 32 := Scalar.extui v123
  let c0_i32_79 : BitVec 32 := 0#32
  let v125 : BitVec 1 := Scalar.cmpi .ne v124 c0_i32_79
  v125

def k0_cond3 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c2_i32_80 : BitVec 32 := 2#32
  let v126 : BitVec 1 := Scalar.cmpi .sge arg22 c2_i32_80
  let v127 : BitVec 32 := Scalar.extui v126
  let c0_i32_81 : BitVec 32 := 0#32
  let v128 : BitVec 1 := Scalar.cmpi .ne v127 c0_i32_81
  v128

def k0_off5 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_86 : BitVec 32 := 4#32
  let v134 : BitVec 32 := Scalar.addi arg22 c4_i32_86
  let c6_i32_87 : BitVec 32 := 6#32
  let v135 : BitVec 32 := Scalar.subi v134 c6_i32_87
  let c8_i32_88 : BitVec 32 := 8#32
  let v136 : BitVec 32 := Scalar.muli v135 c8_i32_88
  let v137 : BitVec 32 := Scalar.addi v2 v136
  let c0_i32_89 : BitVec 32 := 0#32
  ![v137.toNat, 0]
def k0_off6 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_82 : BitVec 32 := 4#32
  let v129 : BitVec 32 := Scalar.addi arg22 c4_i32_82
  let c8_i32_83 : BitVec 32 := 8#32
  let v130 : BitVec 32 := Scalar.muli v129 c8_i32_83
  let v131 : BitVec 32 := Scalar.addi v2 v130
  let c0_i32_84 : BitVec 32 := 0#32
  ![v131.toNat, 0]
def k0_cond4 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c6_i32_31 : BitVec 32 := 6#32
  let c0_i32_32 : BitVec 32 := 0#32
  let v48 : BitVec 1 := Scalar.cmpi .eq c6_i32_31 c0_i32_32
  let c1_i32_33 : BitVec 32 := 1#32
  let v49 : BitVec 32 := Scalar.select v48 c1_i32_33 c6_i32_31
  let v50 : BitVec 32 := Scalar.remsi arg22 v49
  let c0_i32_35 : BitVec 32 := 0#32
  let v52 : BitVec 1 := Scalar.cmpi .slt v50 c0_i32_35
  let c0_i32_36 : BitVec 32 := 0#32
  let v53 : BitVec 1 := Scalar.cmpi .slt v49 c0_i32_36
  let v54 : BitVec 1 := Scalar.xori v52 v53
  let c0_i32_34 : BitVec 32 := 0#32
  let v51 : BitVec 1 := Scalar.cmpi .ne v50 c0_i32_34
  let v55 : BitVec 1 := Scalar.andi v54 v51
  let v56 : BitVec 32 := Scalar.addi v50 v49
  let v57 : BitVec 32 := Scalar.select v55 v56 v50
  let c1_i32_37 : BitVec 32 := 1#32
  let v58 : BitVec 1 := Scalar.cmpi .eq v57 c1_i32_37
  let v59 : BitVec 32 := Scalar.extui v58
  let c0_i32_38 : BitVec 32 := 0#32
  let v60 : BitVec 1 := Scalar.cmpi .ne v59 c0_i32_38
  v60

def k0_off7 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c8_i32_67 : BitVec 32 := 8#32
  let v113 : BitVec 32 := Scalar.muli arg22 c8_i32_67
  let v114 : BitVec 32 := Scalar.addi v2 v113
  let c0_i32_68 : BitVec 32 := 0#32
  ![v114.toNat, 0]
@[reducible] def k0_t3_loop : Scf.Loop 32 :=
  let c0_i32_71 : BitVec 32 := 0#32
  let c32_i32 : BitVec 32 := 32#32
  let v117 : BitVec 32 := Scalar.addi c0_i32_71 c32_i32
  let c1_i32_72 : BitVec 32 := 1#32
  ⟨c0_i32_71, v117, c1_i32_72⟩
def k0_off8 (k0_t3 : Fin k0_t3_loop.trips) (c0_i32_81 : BitVec 32) : Fin 2 → Nat :=
  let c0_i32_83 : BitVec 32 := 0#32
  let v129 : Index := Scalar.indexCast c0_i32_83
  let c4_i32_80 : BitVec 32 := 4#32
  let c0_i32_71 : BitVec 32 := 0#32
  let c1_i32_72 : BitVec 32 := 1#32
  let arg23 : BitVec 32 := Scf.iv c0_i32_71 c1_i32_72 k0_t3
  let v126 : BitVec 32 := Scalar.muli c4_i32_80 arg23
  let v127 : BitVec 32 := Scalar.addi v126 c0_i32_81
  let c16_i32_82 : BitVec 32 := 16#32
  let v128 : BitVec 32 := Scalar.muli v127 c16_i32_82
  let v130 : Index := Scalar.indexCast v128
  ![0, v130.toNat]
def k0_off9 (k0_t3 : Fin k0_t3_loop.trips) (c0_i32_97 : BitVec 32) : Fin 2 → Nat :=
  let c4_i32_99 : BitVec 32 := 4#32
  let v161 : Index := Scalar.indexCast c4_i32_99
  let c4_i32_96 : BitVec 32 := 4#32
  let c0_i32_71 : BitVec 32 := 0#32
  let c1_i32_72 : BitVec 32 := 1#32
  let arg23 : BitVec 32 := Scf.iv c0_i32_71 c1_i32_72 k0_t3
  let v158 : BitVec 32 := Scalar.muli c4_i32_96 arg23
  let v159 : BitVec 32 := Scalar.addi v158 c0_i32_97
  let c16_i32_98 : BitVec 32 := 16#32
  let v160 : BitVec 32 := Scalar.muli v159 c16_i32_98
  let v162 : Index := Scalar.indexCast v160
  ![4, v162.toNat]
def k0_cond5 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c4_i32_77 : BitVec 32 := 4#32
  let v122 : BitVec 32 := Scalar.addi arg22 c4_i32_77
  let c64_i32_78 : BitVec 32 := 64#32
  let v123 : BitVec 1 := Scalar.cmpi .slt v122 c64_i32_78
  let v124 : BitVec 32 := Scalar.extui v123
  let c0_i32_79 : BitVec 32 := 0#32
  let v125 : BitVec 1 := Scalar.cmpi .ne v124 c0_i32_79
  v125

def k0_cond6 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c2_i32_80 : BitVec 32 := 2#32
  let v126 : BitVec 1 := Scalar.cmpi .sge arg22 c2_i32_80
  let v127 : BitVec 32 := Scalar.extui v126
  let c0_i32_81 : BitVec 32 := 0#32
  let v128 : BitVec 1 := Scalar.cmpi .ne v127 c0_i32_81
  v128

def k0_off10 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_86 : BitVec 32 := 4#32
  let v134 : BitVec 32 := Scalar.addi arg22 c4_i32_86
  let c6_i32_87 : BitVec 32 := 6#32
  let v135 : BitVec 32 := Scalar.subi v134 c6_i32_87
  let c8_i32_88 : BitVec 32 := 8#32
  let v136 : BitVec 32 := Scalar.muli v135 c8_i32_88
  let v137 : BitVec 32 := Scalar.addi v2 v136
  let c0_i32_89 : BitVec 32 := 0#32
  ![v137.toNat, 0]
def k0_off11 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_82 : BitVec 32 := 4#32
  let v129 : BitVec 32 := Scalar.addi arg22 c4_i32_82
  let c8_i32_83 : BitVec 32 := 8#32
  let v130 : BitVec 32 := Scalar.muli v129 c8_i32_83
  let v131 : BitVec 32 := Scalar.addi v2 v130
  let c0_i32_84 : BitVec 32 := 0#32
  ![v131.toNat, 0]
def k0_cond7 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c6_i32_39 : BitVec 32 := 6#32
  let c0_i32_40 : BitVec 32 := 0#32
  let v61 : BitVec 1 := Scalar.cmpi .eq c6_i32_39 c0_i32_40
  let c1_i32_41 : BitVec 32 := 1#32
  let v62 : BitVec 32 := Scalar.select v61 c1_i32_41 c6_i32_39
  let v63 : BitVec 32 := Scalar.remsi arg22 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c2_i32 : BitVec 32 := 2#32
  let v71 : BitVec 1 := Scalar.cmpi .eq v70 c2_i32
  let v72 : BitVec 32 := Scalar.extui v71
  let c0_i32_45 : BitVec 32 := 0#32
  let v73 : BitVec 1 := Scalar.cmpi .ne v72 c0_i32_45
  v73

def k0_off12 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c8_i32_67 : BitVec 32 := 8#32
  let v113 : BitVec 32 := Scalar.muli arg22 c8_i32_67
  let v114 : BitVec 32 := Scalar.addi v2 v113
  let c0_i32_68 : BitVec 32 := 0#32
  ![v114.toNat, 0]
@[reducible] def k0_t4_loop : Scf.Loop 32 :=
  let c0_i32_71 : BitVec 32 := 0#32
  let c32_i32 : BitVec 32 := 32#32
  let v117 : BitVec 32 := Scalar.addi c0_i32_71 c32_i32
  let c1_i32_72 : BitVec 32 := 1#32
  ⟨c0_i32_71, v117, c1_i32_72⟩
def k0_off13 (k0_t4 : Fin k0_t4_loop.trips) (c0_i32_81 : BitVec 32) : Fin 2 → Nat :=
  let c0_i32_83 : BitVec 32 := 0#32
  let v129 : Index := Scalar.indexCast c0_i32_83
  let c4_i32_80 : BitVec 32 := 4#32
  let c0_i32_71 : BitVec 32 := 0#32
  let c1_i32_72 : BitVec 32 := 1#32
  let arg23 : BitVec 32 := Scf.iv c0_i32_71 c1_i32_72 k0_t4
  let v126 : BitVec 32 := Scalar.muli c4_i32_80 arg23
  let v127 : BitVec 32 := Scalar.addi v126 c0_i32_81
  let c16_i32_82 : BitVec 32 := 16#32
  let v128 : BitVec 32 := Scalar.muli v127 c16_i32_82
  let v130 : Index := Scalar.indexCast v128
  ![0, v130.toNat]
def k0_off14 (k0_t4 : Fin k0_t4_loop.trips) (c0_i32_97 : BitVec 32) : Fin 2 → Nat :=
  let c4_i32_99 : BitVec 32 := 4#32
  let v161 : Index := Scalar.indexCast c4_i32_99
  let c4_i32_96 : BitVec 32 := 4#32
  let c0_i32_71 : BitVec 32 := 0#32
  let c1_i32_72 : BitVec 32 := 1#32
  let arg23 : BitVec 32 := Scf.iv c0_i32_71 c1_i32_72 k0_t4
  let v158 : BitVec 32 := Scalar.muli c4_i32_96 arg23
  let v159 : BitVec 32 := Scalar.addi v158 c0_i32_97
  let c16_i32_98 : BitVec 32 := 16#32
  let v160 : BitVec 32 := Scalar.muli v159 c16_i32_98
  let v162 : Index := Scalar.indexCast v160
  ![4, v162.toNat]
def k0_cond8 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c4_i32_77 : BitVec 32 := 4#32
  let v122 : BitVec 32 := Scalar.addi arg22 c4_i32_77
  let c64_i32_78 : BitVec 32 := 64#32
  let v123 : BitVec 1 := Scalar.cmpi .slt v122 c64_i32_78
  let v124 : BitVec 32 := Scalar.extui v123
  let c0_i32_79 : BitVec 32 := 0#32
  let v125 : BitVec 1 := Scalar.cmpi .ne v124 c0_i32_79
  v125

def k0_cond9 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c2_i32_80 : BitVec 32 := 2#32
  let v126 : BitVec 1 := Scalar.cmpi .sge arg22 c2_i32_80
  let v127 : BitVec 32 := Scalar.extui v126
  let c0_i32_81 : BitVec 32 := 0#32
  let v128 : BitVec 1 := Scalar.cmpi .ne v127 c0_i32_81
  v128

def k0_off15 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_86 : BitVec 32 := 4#32
  let v134 : BitVec 32 := Scalar.addi arg22 c4_i32_86
  let c6_i32_87 : BitVec 32 := 6#32
  let v135 : BitVec 32 := Scalar.subi v134 c6_i32_87
  let c8_i32_88 : BitVec 32 := 8#32
  let v136 : BitVec 32 := Scalar.muli v135 c8_i32_88
  let v137 : BitVec 32 := Scalar.addi v2 v136
  let c0_i32_89 : BitVec 32 := 0#32
  ![v137.toNat, 0]
def k0_off16 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_82 : BitVec 32 := 4#32
  let v129 : BitVec 32 := Scalar.addi arg22 c4_i32_82
  let c8_i32_83 : BitVec 32 := 8#32
  let v130 : BitVec 32 := Scalar.muli v129 c8_i32_83
  let v131 : BitVec 32 := Scalar.addi v2 v130
  let c0_i32_84 : BitVec 32 := 0#32
  ![v131.toNat, 0]
def k0_cond10 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c6_i32_46 : BitVec 32 := 6#32
  let c0_i32_47 : BitVec 32 := 0#32
  let v74 : BitVec 1 := Scalar.cmpi .eq c6_i32_46 c0_i32_47
  let c1_i32_48 : BitVec 32 := 1#32
  let v75 : BitVec 32 := Scalar.select v74 c1_i32_48 c6_i32_46
  let v76 : BitVec 32 := Scalar.remsi arg22 v75
  let c0_i32_50 : BitVec 32 := 0#32
  let v78 : BitVec 1 := Scalar.cmpi .slt v76 c0_i32_50
  let c0_i32_51 : BitVec 32 := 0#32
  let v79 : BitVec 1 := Scalar.cmpi .slt v75 c0_i32_51
  let v80 : BitVec 1 := Scalar.xori v78 v79
  let c0_i32_49 : BitVec 32 := 0#32
  let v77 : BitVec 1 := Scalar.cmpi .ne v76 c0_i32_49
  let v81 : BitVec 1 := Scalar.andi v80 v77
  let v82 : BitVec 32 := Scalar.addi v76 v75
  let v83 : BitVec 32 := Scalar.select v81 v82 v76
  let c3_i32 : BitVec 32 := 3#32
  let v84 : BitVec 1 := Scalar.cmpi .eq v83 c3_i32
  let v85 : BitVec 32 := Scalar.extui v84
  let c0_i32_52 : BitVec 32 := 0#32
  let v86 : BitVec 1 := Scalar.cmpi .ne v85 c0_i32_52
  v86

def k0_off17 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c8_i32_67 : BitVec 32 := 8#32
  let v113 : BitVec 32 := Scalar.muli arg22 c8_i32_67
  let v114 : BitVec 32 := Scalar.addi v2 v113
  let c0_i32_68 : BitVec 32 := 0#32
  ![v114.toNat, 0]
@[reducible] def k0_t5_loop : Scf.Loop 32 :=
  let c0_i32_71 : BitVec 32 := 0#32
  let c32_i32 : BitVec 32 := 32#32
  let v117 : BitVec 32 := Scalar.addi c0_i32_71 c32_i32
  let c1_i32_72 : BitVec 32 := 1#32
  ⟨c0_i32_71, v117, c1_i32_72⟩
def k0_off18 (k0_t5 : Fin k0_t5_loop.trips) (c0_i32_81 : BitVec 32) : Fin 2 → Nat :=
  let c0_i32_83 : BitVec 32 := 0#32
  let v129 : Index := Scalar.indexCast c0_i32_83
  let c4_i32_80 : BitVec 32 := 4#32
  let c0_i32_71 : BitVec 32 := 0#32
  let c1_i32_72 : BitVec 32 := 1#32
  let arg23 : BitVec 32 := Scf.iv c0_i32_71 c1_i32_72 k0_t5
  let v126 : BitVec 32 := Scalar.muli c4_i32_80 arg23
  let v127 : BitVec 32 := Scalar.addi v126 c0_i32_81
  let c16_i32_82 : BitVec 32 := 16#32
  let v128 : BitVec 32 := Scalar.muli v127 c16_i32_82
  let v130 : Index := Scalar.indexCast v128
  ![0, v130.toNat]
def k0_off19 (k0_t5 : Fin k0_t5_loop.trips) (c0_i32_97 : BitVec 32) : Fin 2 → Nat :=
  let c4_i32_99 : BitVec 32 := 4#32
  let v161 : Index := Scalar.indexCast c4_i32_99
  let c4_i32_96 : BitVec 32 := 4#32
  let c0_i32_71 : BitVec 32 := 0#32
  let c1_i32_72 : BitVec 32 := 1#32
  let arg23 : BitVec 32 := Scf.iv c0_i32_71 c1_i32_72 k0_t5
  let v158 : BitVec 32 := Scalar.muli c4_i32_96 arg23
  let v159 : BitVec 32 := Scalar.addi v158 c0_i32_97
  let c16_i32_98 : BitVec 32 := 16#32
  let v160 : BitVec 32 := Scalar.muli v159 c16_i32_98
  let v162 : Index := Scalar.indexCast v160
  ![4, v162.toNat]
def k0_cond11 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c4_i32_77 : BitVec 32 := 4#32
  let v122 : BitVec 32 := Scalar.addi arg22 c4_i32_77
  let c64_i32_78 : BitVec 32 := 64#32
  let v123 : BitVec 1 := Scalar.cmpi .slt v122 c64_i32_78
  let v124 : BitVec 32 := Scalar.extui v123
  let c0_i32_79 : BitVec 32 := 0#32
  let v125 : BitVec 1 := Scalar.cmpi .ne v124 c0_i32_79
  v125

def k0_cond12 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c2_i32_80 : BitVec 32 := 2#32
  let v126 : BitVec 1 := Scalar.cmpi .sge arg22 c2_i32_80
  let v127 : BitVec 32 := Scalar.extui v126
  let c0_i32_81 : BitVec 32 := 0#32
  let v128 : BitVec 1 := Scalar.cmpi .ne v127 c0_i32_81
  v128

def k0_off20 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_86 : BitVec 32 := 4#32
  let v134 : BitVec 32 := Scalar.addi arg22 c4_i32_86
  let c6_i32_87 : BitVec 32 := 6#32
  let v135 : BitVec 32 := Scalar.subi v134 c6_i32_87
  let c8_i32_88 : BitVec 32 := 8#32
  let v136 : BitVec 32 := Scalar.muli v135 c8_i32_88
  let v137 : BitVec 32 := Scalar.addi v2 v136
  let c0_i32_89 : BitVec 32 := 0#32
  ![v137.toNat, 0]
def k0_off21 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_82 : BitVec 32 := 4#32
  let v129 : BitVec 32 := Scalar.addi arg22 c4_i32_82
  let c8_i32_83 : BitVec 32 := 8#32
  let v130 : BitVec 32 := Scalar.muli v129 c8_i32_83
  let v131 : BitVec 32 := Scalar.addi v2 v130
  let c0_i32_84 : BitVec 32 := 0#32
  ![v131.toNat, 0]
def k0_cond13 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c6_i32_53 : BitVec 32 := 6#32
  let c0_i32_54 : BitVec 32 := 0#32
  let v87 : BitVec 1 := Scalar.cmpi .eq c6_i32_53 c0_i32_54
  let c1_i32_55 : BitVec 32 := 1#32
  let v88 : BitVec 32 := Scalar.select v87 c1_i32_55 c6_i32_53
  let v89 : BitVec 32 := Scalar.remsi arg22 v88
  let c0_i32_57 : BitVec 32 := 0#32
  let v91 : BitVec 1 := Scalar.cmpi .slt v89 c0_i32_57
  let c0_i32_58 : BitVec 32 := 0#32
  let v92 : BitVec 1 := Scalar.cmpi .slt v88 c0_i32_58
  let v93 : BitVec 1 := Scalar.xori v91 v92
  let c0_i32_56 : BitVec 32 := 0#32
  let v90 : BitVec 1 := Scalar.cmpi .ne v89 c0_i32_56
  let v94 : BitVec 1 := Scalar.andi v93 v90
  let v95 : BitVec 32 := Scalar.addi v89 v88
  let v96 : BitVec 32 := Scalar.select v94 v95 v89
  let c4_i32 : BitVec 32 := 4#32
  let v97 : BitVec 1 := Scalar.cmpi .eq v96 c4_i32
  let v98 : BitVec 32 := Scalar.extui v97
  let c0_i32_59 : BitVec 32 := 0#32
  let v99 : BitVec 1 := Scalar.cmpi .ne v98 c0_i32_59
  v99

def k0_off22 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c8_i32_67 : BitVec 32 := 8#32
  let v113 : BitVec 32 := Scalar.muli arg22 c8_i32_67
  let v114 : BitVec 32 := Scalar.addi v2 v113
  let c0_i32_68 : BitVec 32 := 0#32
  ![v114.toNat, 0]
@[reducible] def k0_t6_loop : Scf.Loop 32 :=
  let c0_i32_71 : BitVec 32 := 0#32
  let c32_i32 : BitVec 32 := 32#32
  let v117 : BitVec 32 := Scalar.addi c0_i32_71 c32_i32
  let c1_i32_72 : BitVec 32 := 1#32
  ⟨c0_i32_71, v117, c1_i32_72⟩
def k0_off23 (k0_t6 : Fin k0_t6_loop.trips) (c0_i32_81 : BitVec 32) : Fin 2 → Nat :=
  let c0_i32_83 : BitVec 32 := 0#32
  let v129 : Index := Scalar.indexCast c0_i32_83
  let c4_i32_80 : BitVec 32 := 4#32
  let c0_i32_71 : BitVec 32 := 0#32
  let c1_i32_72 : BitVec 32 := 1#32
  let arg23 : BitVec 32 := Scf.iv c0_i32_71 c1_i32_72 k0_t6
  let v126 : BitVec 32 := Scalar.muli c4_i32_80 arg23
  let v127 : BitVec 32 := Scalar.addi v126 c0_i32_81
  let c16_i32_82 : BitVec 32 := 16#32
  let v128 : BitVec 32 := Scalar.muli v127 c16_i32_82
  let v130 : Index := Scalar.indexCast v128
  ![0, v130.toNat]
def k0_off24 (k0_t6 : Fin k0_t6_loop.trips) (c0_i32_97 : BitVec 32) : Fin 2 → Nat :=
  let c4_i32_99 : BitVec 32 := 4#32
  let v161 : Index := Scalar.indexCast c4_i32_99
  let c4_i32_96 : BitVec 32 := 4#32
  let c0_i32_71 : BitVec 32 := 0#32
  let c1_i32_72 : BitVec 32 := 1#32
  let arg23 : BitVec 32 := Scf.iv c0_i32_71 c1_i32_72 k0_t6
  let v158 : BitVec 32 := Scalar.muli c4_i32_96 arg23
  let v159 : BitVec 32 := Scalar.addi v158 c0_i32_97
  let c16_i32_98 : BitVec 32 := 16#32
  let v160 : BitVec 32 := Scalar.muli v159 c16_i32_98
  let v162 : Index := Scalar.indexCast v160
  ![4, v162.toNat]
def k0_cond14 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c4_i32_77 : BitVec 32 := 4#32
  let v122 : BitVec 32 := Scalar.addi arg22 c4_i32_77
  let c64_i32_78 : BitVec 32 := 64#32
  let v123 : BitVec 1 := Scalar.cmpi .slt v122 c64_i32_78
  let v124 : BitVec 32 := Scalar.extui v123
  let c0_i32_79 : BitVec 32 := 0#32
  let v125 : BitVec 1 := Scalar.cmpi .ne v124 c0_i32_79
  v125

def k0_cond15 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c2_i32_80 : BitVec 32 := 2#32
  let v126 : BitVec 1 := Scalar.cmpi .sge arg22 c2_i32_80
  let v127 : BitVec 32 := Scalar.extui v126
  let c0_i32_81 : BitVec 32 := 0#32
  let v128 : BitVec 1 := Scalar.cmpi .ne v127 c0_i32_81
  v128

def k0_off25 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_86 : BitVec 32 := 4#32
  let v134 : BitVec 32 := Scalar.addi arg22 c4_i32_86
  let c6_i32_87 : BitVec 32 := 6#32
  let v135 : BitVec 32 := Scalar.subi v134 c6_i32_87
  let c8_i32_88 : BitVec 32 := 8#32
  let v136 : BitVec 32 := Scalar.muli v135 c8_i32_88
  let v137 : BitVec 32 := Scalar.addi v2 v136
  let c0_i32_89 : BitVec 32 := 0#32
  ![v137.toNat, 0]
def k0_off26 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_82 : BitVec 32 := 4#32
  let v129 : BitVec 32 := Scalar.addi arg22 c4_i32_82
  let c8_i32_83 : BitVec 32 := 8#32
  let v130 : BitVec 32 := Scalar.muli v129 c8_i32_83
  let v131 : BitVec 32 := Scalar.addi v2 v130
  let c0_i32_84 : BitVec 32 := 0#32
  ![v131.toNat, 0]
def k0_cond16 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c6_i32_60 : BitVec 32 := 6#32
  let c0_i32_61 : BitVec 32 := 0#32
  let v100 : BitVec 1 := Scalar.cmpi .eq c6_i32_60 c0_i32_61
  let c1_i32_62 : BitVec 32 := 1#32
  let v101 : BitVec 32 := Scalar.select v100 c1_i32_62 c6_i32_60
  let v102 : BitVec 32 := Scalar.remsi arg22 v101
  let c0_i32_64 : BitVec 32 := 0#32
  let v104 : BitVec 1 := Scalar.cmpi .slt v102 c0_i32_64
  let c0_i32_65 : BitVec 32 := 0#32
  let v105 : BitVec 1 := Scalar.cmpi .slt v101 c0_i32_65
  let v106 : BitVec 1 := Scalar.xori v104 v105
  let c0_i32_63 : BitVec 32 := 0#32
  let v103 : BitVec 1 := Scalar.cmpi .ne v102 c0_i32_63
  let v107 : BitVec 1 := Scalar.andi v106 v103
  let v108 : BitVec 32 := Scalar.addi v102 v101
  let v109 : BitVec 32 := Scalar.select v107 v108 v102
  let c5_i32 : BitVec 32 := 5#32
  let v110 : BitVec 1 := Scalar.cmpi .eq v109 c5_i32
  let v111 : BitVec 32 := Scalar.extui v110
  let c0_i32_66 : BitVec 32 := 0#32
  let v112 : BitVec 1 := Scalar.cmpi .ne v111 c0_i32_66
  v112

def k0_off27 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c8_i32_67 : BitVec 32 := 8#32
  let v113 : BitVec 32 := Scalar.muli arg22 c8_i32_67
  let v114 : BitVec 32 := Scalar.addi v2 v113
  let c0_i32_68 : BitVec 32 := 0#32
  ![v114.toNat, 0]
@[reducible] def k0_t7_loop : Scf.Loop 32 :=
  let c0_i32_71 : BitVec 32 := 0#32
  let c32_i32 : BitVec 32 := 32#32
  let v117 : BitVec 32 := Scalar.addi c0_i32_71 c32_i32
  let c1_i32_72 : BitVec 32 := 1#32
  ⟨c0_i32_71, v117, c1_i32_72⟩
def k0_off28 (k0_t7 : Fin k0_t7_loop.trips) (c0_i32_81 : BitVec 32) : Fin 2 → Nat :=
  let c0_i32_83 : BitVec 32 := 0#32
  let v129 : Index := Scalar.indexCast c0_i32_83
  let c4_i32_80 : BitVec 32 := 4#32
  let c0_i32_71 : BitVec 32 := 0#32
  let c1_i32_72 : BitVec 32 := 1#32
  let arg23 : BitVec 32 := Scf.iv c0_i32_71 c1_i32_72 k0_t7
  let v126 : BitVec 32 := Scalar.muli c4_i32_80 arg23
  let v127 : BitVec 32 := Scalar.addi v126 c0_i32_81
  let c16_i32_82 : BitVec 32 := 16#32
  let v128 : BitVec 32 := Scalar.muli v127 c16_i32_82
  let v130 : Index := Scalar.indexCast v128
  ![0, v130.toNat]
def k0_off29 (k0_t7 : Fin k0_t7_loop.trips) (c0_i32_97 : BitVec 32) : Fin 2 → Nat :=
  let c4_i32_99 : BitVec 32 := 4#32
  let v161 : Index := Scalar.indexCast c4_i32_99
  let c4_i32_96 : BitVec 32 := 4#32
  let c0_i32_71 : BitVec 32 := 0#32
  let c1_i32_72 : BitVec 32 := 1#32
  let arg23 : BitVec 32 := Scf.iv c0_i32_71 c1_i32_72 k0_t7
  let v158 : BitVec 32 := Scalar.muli c4_i32_96 arg23
  let v159 : BitVec 32 := Scalar.addi v158 c0_i32_97
  let c16_i32_98 : BitVec 32 := 16#32
  let v160 : BitVec 32 := Scalar.muli v159 c16_i32_98
  let v162 : Index := Scalar.indexCast v160
  ![4, v162.toNat]
def k0_cond17 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c4_i32_77 : BitVec 32 := 4#32
  let v122 : BitVec 32 := Scalar.addi arg22 c4_i32_77
  let c64_i32_78 : BitVec 32 := 64#32
  let v123 : BitVec 1 := Scalar.cmpi .slt v122 c64_i32_78
  let v124 : BitVec 32 := Scalar.extui v123
  let c0_i32_79 : BitVec 32 := 0#32
  let v125 : BitVec 1 := Scalar.cmpi .ne v124 c0_i32_79
  v125

def k0_cond18 (k0_t1 : Fin k0_t1_loop.trips) : BitVec 1 :=
  let c0_i32_10 : BitVec 32 := 0#32
  let c1_i32 : BitVec 32 := 1#32
  let arg22 : BitVec 32 := Scf.iv c0_i32_10 c1_i32 k0_t1
  let c2_i32_80 : BitVec 32 := 2#32
  let v126 : BitVec 1 := Scalar.cmpi .sge arg22 c2_i32_80
  let v127 : BitVec 32 := Scalar.extui v126
  let c0_i32_81 : BitVec 32 := 0#32
  let v128 : BitVec 1 := Scalar.cmpi .ne v127 c0_i32_81
  v128

def k0_off30 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_86 : BitVec 32 := 4#32
  let v134 : BitVec 32 := Scalar.addi arg22 c4_i32_86
  let c6_i32_87 : BitVec 32 := 6#32
  let v135 : BitVec 32 := Scalar.subi v134 c6_i32_87
  let c8_i32_88 : BitVec 32 := 8#32
  let v136 : BitVec 32 := Scalar.muli v135 c8_i32_88
  let v137 : BitVec 32 := Scalar.addi v2 v136
  let c0_i32_89 : BitVec 32 := 0#32
  ![v137.toNat, 0]
def k0_off31 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_10 : BitVec 32 := 0#32
  let c1_i32 : BitVec 32 := 1#32
  let arg22 : BitVec 32 := Scf.iv c0_i32_10 c1_i32 k0_t1
  let c4_i32_82 : BitVec 32 := 4#32
  let v129 : BitVec 32 := Scalar.addi arg22 c4_i32_82
  let c8_i32_83 : BitVec 32 := 8#32
  let v130 : BitVec 32 := Scalar.muli v129 c8_i32_83
  let v131 : BitVec 32 := Scalar.addi v2 v130
  let c0_i32_84 : BitVec 32 := 0#32
  ![v131.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S16384 : Shape := ⟨1, ![16384]⟩
abbrev S16384x1 : Shape := ⟨2, ![16384, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S_, .i32⟩
  | .hbm, ⟨18, _⟩ => ⟨S_, .i1⟩
  | .hbm, ⟨19, _⟩ => ⟨S16384x1, .i1⟩
  | .hbm, ⟨20, _⟩ => ⟨S16384x1, .i1⟩
  | .hbm, ⟨21, _⟩ => ⟨S16384x1, .i1⟩
  | .hbm, ⟨22, _⟩ => ⟨S16384x1, .i32⟩
  | .hbm, ⟨23, _⟩ => ⟨S16384x1, .i32⟩
  | .hbm, ⟨24, _⟩ => ⟨S16384x1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S_, .f32⟩
  | .hbm, ⟨29, _⟩ => ⟨S16384x2048, .f32⟩
  | .hbm, ⟨30, _⟩ => ⟨S_, .f32⟩
  | .hbm, ⟨31, _⟩ => ⟨S_, .f32⟩
  | .hbm, ⟨32, _⟩ => ⟨S16384x2048, .i1⟩
  | .hbm, ⟨33, _⟩ => ⟨S16384x2048, .f32⟩
  | .hbm, ⟨34, _⟩ => ⟨S16384x2048, .f32⟩
  | .hbm, ⟨35, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v6 : Ref sig .tc := ⟨.hbm, 34, rfl⟩
abbrev main_v7 : Ref sig .tc := ⟨.hbm, 35, rfl⟩

abbrev nD : Nat := 1
abbrev τ : Topo := Topo.v7x

variable {F : FTy → Type} [FloatOps F]
-- ==== Proof.IdealScTile.lean ====
/-
  The task one vector subcore runs, at a symbolic grid point.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Memref
public import Idealize.ShloMosaic.Lib.Transfers
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The handshakes' rounds. -/
abbrev UH : Type := URounds (GSem nD τ sig) ℕ
/-- The ghost state: the rounds, and a count for each transfer. -/
abbrev UU : Type := UH × Counters

local notation "𝕄" => MT nD τ sig (HIx 1) (Elt F) ℕ UU ℕ

/-- No loop of the task needs a variant. -/
abbrev 𝒱₀ : Variants := Variants.none
/-- The SparseCore of a grid point. -/
abbrev cV (L : grid0.Coords) : Fin τ.nSC := (L 0).castLE hcore0
/-- The vector subcore of a grid point. -/
abbrev jV (L : grid0.Coords) : Fin τ.nSub := (L 1).castLE hsub0
/-- The vector subcore of device `d` at grid point `L`. -/
abbrev thr (d : Dev nD) (L : grid0.Coords) : Thread nD τ := V d (cV L) (jV L)

/-- Contents of one chunk: eight rows of 2048 floats. -/
abbrev Chunk (F : FTy → Type) : Type := S8x2048.Idx → Elt F .f32
/-- A place for one chunk. -/
abbrev ChunkRef (sp : Space) : Type := Memref sig .scVector sp S8x2048 .f32

/-- The zero the kernel stores. -/
abbrev zero : Elt F .f32 := FloatOps.ofBits (F := F) .f32 0x00000000#32

/-! ## Zeroing rows 0 and 4 of a chunk -/

/-- The chunk `v` with every row whose number is a multiple of four zeroed. -/
def zeroed (v : Chunk F) : Chunk F := fun y => if (y 0).val % 4 = 0 then zero else v y
/-- The same, in the first `64 * t` columns only. -/
def zeroedTo (t : ℕ) (v : Chunk F) : Chunk F := fun y => if (y 0).val % 4 = 0 ∧ (y 1).val < 64 * t then zero else v y

/-- With no column zeroed the chunk is as it was, -/
theorem zeroedTo_zero (v : Chunk F) : zeroedTo 0 v = v := by
  funext y; simp [zeroedTo]
/-- and after 32 trips of 64 columns its rows are zeroed. -/
theorem zeroedTo_end (v : Chunk F) : zeroedTo 32 v = zeroed v := by
  funext y
  have h : (y 1).val < 2048 := (y 1).isLt
  simp only [zeroedTo, zeroed, show (y 1).val < 64 * 32 from h, and_true]

/-- A one-row piece of sixteen columns overwritten by zeros. -/
def put (off : Fin 2 → ℕ) (v : Chunk F) : Chunk F :=
  fun y => if (off 0 = (y 0).val) ∧ off 1 ≤ (y 1).val ∧ (y 1).val < off 1 + 16 then zero else v y

/-- The elements of a one-row piece of sixteen columns. -/
theorem mem_piece {off : Fin 2 → ℕ} {inb} {y : S8x2048.Idx} :
    y ∈ (Rect.unit (s := S8x2048) off S1x16.size inb).set ↔ (off 0 = (y 0).val) ∧ off 1 ≤ (y 1).val ∧ (y 1).val < off 1 + 16 := by
  rw [Rect.mem_set_unit]
  refine (Fin.forall_fin_two (p := fun a : Fin 2 => off a ≤ (y a).val ∧ (y a).val < off a + S1x16.size a)).trans ?_
  have h0 : S1x16.size 0 = 1 := rfl
  have h1 : S1x16.size 1 = 16 := rfl
  rw [h0, h1]
  omega

/-- A load of a piece and a store of zeros over it. -/
def pair (L : grid0.Coords) (B : ChunkRef .vmem) (off : Fin 2 → ℕ) (inb : ∀ a, off a + S1x16.size a ≤ S8x2048.size a) (w : FVec F S1x16 .f32) :
    Prog (TpuEff nD τ sig (Elt F) Λ₀ (.scVector (cV L) (jV L))) PUnit := do
  let _ : Vec F S1x16 .f32 ← Prog.lift (.load B (Rect.unit (s := S8x2048) off S1x16.size inb).toLoadRect (View.loadsAt_vmem h_S1x16))
  Prog.lift (.store B (Rect.unit (s := S8x2048) off S1x16.size inb) w Finset.univ (View.stores_vmem_bits_univ h_S1x16 rfl) (.inl rfl))

section Rules

variable (d : Dev nD) (L : grid0.Coords)

/-- Loading a piece and storing zeros there zeroes it. -/
theorem wp_pair (B : ChunkRef .vmem) (off : Fin 2 → ℕ) (inb) (w : FVec F S1x16 .f32) (hw : ∀ i, w i = zero) (v : Chunk F) :
    (owns (thr d L) B fullShare v : sProp 𝕄)
      ⊢ wp frame (wpE (defs₀ (F := F)) 𝒱₀ (thr d L) none) Set.univ (pair L B off inb w) fun _ => owns (thr d L) B fullShare (put off v) := by
  let r : Rect S8x2048 := Rect.unit (s := S8x2048) off S1x16.size inb
  unfold owns
  iintro ⟨%f, %hf, H⟩
  unfold pair
  iapply (wp_load (S := B.view.set) 𝒱₀ (thr d L) none Set.univ (View.setOn_subset_set _ _)) $$ H
  iintro H
  iapply (wp_store (m := B) (r := r) (S := B.view.set) 𝒱₀ (thr d L) none Set.univ (Memref.setOn_access_subset _ _ _)) $$ H
  iintro H
  rw [wp_ret]
  imodintro
  iexists _
  isplitr
  swap
  · iexact H
  ipureintro
  funext y
  by_cases hy : y ∈ r.set
  · rw [put, if_pos (mem_piece.mp hy)]
    obtain ⟨x, -, rfl⟩ := Finset.mem_map.mp (Rect.map_emb_univ r ▸ hy)
    exact (View.read_slice_write_emb r f w (Finset.mem_univ x)).trans (hw x)
  · rw [put, if_neg (mt mem_piece.mpr hy), ← hf]
    exact View.read_slice_write_of_not_mem r f w Finset.univ (by rwa [Rect.map_emb_univ])

/-- One trip of the zeroing loop: the sixty-four columns from `64 * t` on, of rows 0 and 4. -/
def zeroTrip (B : ChunkRef .vmem) (o0 o4 : Fin 4 → Fin 2 → ℕ) (h0 : ∀ r a, o0 r a + S1x16.size a ≤ S8x2048.size a)
    (h4 : ∀ r a, o4 r a + S1x16.size a ≤ S8x2048.size a) (w : Fin 8 → FVec F S1x16 .f32) :
    Prog (TpuEff nD τ sig (Elt F) Λ₀ (.scVector (cV L) (jV L))) PUnit := do
  pair L B (o0 0) (h0 0) (w 0)
  pair L B (o0 1) (h0 1) (w 1)
  pair L B (o0 2) (h0 2) (w 2)
  pair L B (o0 3) (h0 3) (w 3)
  pair L B (o4 0) (h4 0) (w 4)
  pair L B (o4 1) (h4 1) (w 5)
  pair L B (o4 2) (h4 2) (w 6)
  pair L B (o4 3) (h4 3) (w 7)
  pure ⟨⟩

/-- The eight pieces of a trip are the next 64 columns of both rows. -/
theorem put_all (t : ℕ) (v : Chunk F) :
    put ![4, 64 * t + 16 * 3] (put ![4, 64 * t + 16 * 2] (put ![4, 64 * t + 16 * 1] (put ![4, 64 * t + 16 * 0]
      (put ![0, 64 * t + 16 * 3] (put ![0, 64 * t + 16 * 2] (put ![0, 64 * t + 16 * 1] (put ![0, 64 * t + 16 * 0]
        (zeroedTo t v)))))))) = zeroedTo (t + 1) v := by
  funext y
  have hy : (y 0).val < 8 := (y 0).isLt
  have hm : (y 0).val % 4 = 0 ↔ (y 0).val = 0 ∨ (y 0).val = 4 := by omega
  simp only [put, zeroedTo, hm, Matrix.cons_val_zero, Matrix.cons_val_one]
  generalize (y 0).val = a at *
  generalize (y 1).val = b at *
  split_ifs <;> first | rfl | (exfalso; omega)

/-- A step of a sequence of statements that return nothing. -/
theorem wp_seq {α : Type} {p : Prog (TpuEff nD τ sig (Elt F) Λ₀ (.scVector (cV L) (jV L))) PUnit}
    {q : PUnit → Prog (TpuEff nD τ sig (Elt F) Λ₀ (.scVector (cV L) (jV L))) α} {P R : sProp 𝕄} {Q : α → sProp 𝕄}
    (h : P ⊢ wp frame (wpE (defs₀ (F := F)) 𝒱₀ (thr d L) none) Set.univ p fun _ => R)
    (h' : R ⊢ wp frame (wpE (defs₀ (F := F)) 𝒱₀ (thr d L) none) Set.univ (q ⟨⟩) Q) :
    P ⊢ wp frame (wpE (defs₀ (F := F)) 𝒱₀ (thr d L) none) Set.univ (p >>= q) Q :=
  (h.trans (wp_mono _ _ _ fun _ => h')).trans (Entails.of_eq (wp_bind _ _ _ _ _ _).symm)

/-- A trip of the zeroing loop zeroes the next 64 columns. -/
theorem wp_zeroTrip (B : ChunkRef .vmem) (o0 o4 : Fin 4 → Fin 2 → ℕ) (h0) (h4) (w : Fin 8 → FVec F S1x16 .f32) (hw : ∀ p i, w p i = zero)
    (t : ℕ) (e0 : ∀ r : Fin 4, o0 r = ![0, 64 * t + 16 * r.val]) (e4 : ∀ r : Fin 4, o4 r = ![4, 64 * t + 16 * r.val]) (v : Chunk F) :
    (owns (thr d L) B fullShare (zeroedTo t v) : sProp 𝕄)
      ⊢ wp frame (wpE (defs₀ (F := F)) 𝒱₀ (thr d L) none) Set.univ (zeroTrip L B o0 o4 h0 h4 w)
          fun _ => owns (thr d L) B fullShare (zeroedTo (t + 1) v) := by
  unfold zeroTrip
  refine wp_seq d L (wp_pair d L B _ _ _ (hw 0) _) ?_
  refine wp_seq d L (wp_pair d L B _ _ _ (hw 1) _) ?_
  refine wp_seq d L (wp_pair d L B _ _ _ (hw 2) _) ?_
  refine wp_seq d L (wp_pair d L B _ _ _ (hw 3) _) ?_
  refine wp_seq d L (wp_pair d L B _ _ _ (hw 4) _) ?_
  refine wp_seq d L (wp_pair d L B _ _ _ (hw 5) _) ?_
  refine wp_seq d L (wp_pair d L B _ _ _ (hw 6) _) ?_
  refine wp_seq d L (wp_pair d L B _ _ _ (hw 7) _) ?_
  rw [← put_all t v, e0, e0, e0, e0, e4, e4, e4, e4]
  show _ ⊢ wp _ _ _ (.ret _) _
  rw [wp_ret]
  iintro H
  imodintro
  iexact H

/-! ## Copies -/

/-- The transfers' part of the ghost state. -/
abbrev EC : UEmb Counters 𝕄 := countersEmb

/-- What a copy counts on its semaphore. -/
abbrev amt {sp : Space} (M : ChunkRef sp) : ℕ := M.view.ref.dmaCredit S8x2048 .f32

/-- A memref owned whole at contents nothing is said of. -/
def anyOf {sp : Space} (M : ChunkRef sp) : sProp 𝕄 := iprop(∃ v, owns (thr d L) M fullShare v)

/-- Starting a copy between chunk memrefs: what was read is what will have been written. -/
theorem wp_start {sp sp' : Space} {α : Type} (A : ChunkRef sp) (B : ChunkRef sp') (sm : DmaSem sig) (v : Chunk F) {h1 h2 h3}
    {k : PUnit → Prog (TpuEff nD τ sig (Elt F) Λ₀ (.scVector (cV L) (jV L))) α} {Q : α → sProp 𝕄} (hN : 0 < amt B) :
    iprop(owns (thr d L) A fullShare v ∗ anyOf d L B ∗ semVal ((thr d L), .dma sm) 0)
      ⊢ iprop((Transfers.Flight EC (thr d L) (.dma sm) (default : HIx 1) (amt B)
            iprop(owns (thr d L) B fullShare v ∗ owns (thr d L) A fullShare v)
              -∗ wp frame (wpE (defs₀ (F := F)) 𝒱₀ (thr d L) none) Set.univ (k ⟨⟩) Q)
          -∗ wp frame (wpE (defs₀ (F := F)) 𝒱₀ (thr d L) none) Set.univ (.op (.enqueueDma A (.here B) (.dma sm) h1 h2 h3) k) Q) := by
  unfold anyOf
  iintro ⟨HA, HB, Hs⟩ Hk
  icases HB with ⟨%u, HB⟩
  unfold owns
  icases HA with ⟨%f, %hf, HA⟩
  icases HB with ⟨%g, -, HB⟩
  iapply (Transfers.wp_dmaLocal (Sd := B.view.set) EC 𝒱₀ (thr d L) none (default : HIx 1) (amt B) rfl hN (Finset.Subset.refl _)) $$ [HA HB Hs]
  · isplitl [HA]; · iexact HA
    isplitl [HB]; · iexact HB
    iexact Hs
  iintro H
  iapply Hk
  iapply (Transfers.Flight_mono EC (thr d L) ?_) $$ H
  iintro ⟨HB, HA⟩
  isplitl [HB]
  · iexists _
    isplitr
    swap
    · iexact HB
    ipureintro
    rw [View.read_write_univ]
    exact hf
  · iexists f
    isplitr
    · ipureintro; exact hf
    iexact HA

/-- What a subcore owes while it works: `O` still, and the waits it has made, beyond those of `W`, were on its own copies. -/
def Owing (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

/-- Waiting for a copy in flight: what it delivers, and its semaphore at zero. -/
theorem wp_await {sp sp' : Space} {α : Type} (A : ChunkRef sp) (B : ChunkRef sp') (sm : DmaSem sig) (N : ℕ) (hN : amt B = N) (D : sProp 𝕄)
    (O : CellTallies nD τ sig (HIx 1)) (W : Waits sig (HIx 1)) {h1 h2}
    {k : PUnit → Prog (TpuEff nD τ sig (Elt F) Λ₀ (.scVector (cV L) (jV L))) α} {Q : α → sProp 𝕄} :
    iprop(Transfers.Flight EC (thr d L) (.dma sm) (default : HIx 1) N D ∗ Owing d L O W)
      ⊢ iprop((iprop(D ∗ semVal ((thr d L), .dma sm) 0 ∗ Owing d L O W)
              -∗ wp frame (wpE (defs₀ (F := F)) 𝒱₀ (thr d L) none) Set.univ (k ⟨⟩) Q)
          -∗ wp frame (wpE (defs₀ (F := F)) 𝒱₀ (thr d L) none) Set.univ (.op (.waitDma2 sm A B h1 h2) k) Q) := by
  unfold Owing
  iintro ⟨Hf, #Hmw, %W', %hW, HO⟩ Hk
  iapply (Transfers.wp_waitLocalO EC 𝒱₀ (thr d L) none (default : HIx 1) hN) $$ [Hf HO]
  · isplitl [Hf]; · iexact Hf
    isplitl [HO]; · iexact HO
    iapply (Transfers.MayWaits.elim (SemLoc.dma sm)) $$ Hmw
  iintro ⟨HD, Hs, HO⟩
  iapply Hk
  isplitl [HD]; · iexact HD
  isplitl [Hs]; · iexact Hs
  isplitr; · iexact Hmw
  iexists _
  isplitr
  swap
  · iexact HO
  ipureintro
  intro p hp
  rcases Finset.mem_insert.mp hp with hp | hp
  · subst hp; exact Or.inr rfl
  · exact hW p hp

/-! ## The ring: six buffers, and where each chunk stands -/

/-- The ring's buffers. -/
def buf : Fin 6 → ChunkRef .vmem
  | 0 => Memref.whole cc0_scratch0
  | 1 => Memref.whole cc0_scratch1
  | 2 => Memref.whole cc0_scratch2
  | 3 => Memref.whole cc0_scratch3
  | 4 => Memref.whole cc0_scratch4
  | 5 => Memref.whole cc0_scratch5
/-- The semaphore of each buffer's copies in. -/
def sin : Fin 6 → DmaSem sig
  | 0 => cc0_scratch6.sem
  | 1 => cc0_scratch7.sem
  | 2 => cc0_scratch8.sem
  | 3 => cc0_scratch9.sem
  | 4 => cc0_scratch10.sem
  | 5 => cc0_scratch11.sem
/-- The semaphore of each buffer's copies out. -/
def sout : Fin 6 → DmaSem sig
  | 0 => cc0_scratch12.sem
  | 1 => cc0_scratch13.sem
  | 2 => cc0_scratch14.sem
  | 3 => cc0_scratch15.sem
  | 4 => cc0_scratch16.sem
  | 5 => cc0_scratch17.sem

/-- The first element of chunk `j` of this subcore's rows. -/
def chunkOff (j : ℕ) : Fin 2 → ℕ := ![8192 * (L 0).val + 512 * (L 1).val + 8 * (j % 64), 0]

/-- A chunk is within the array. -/
theorem chunkOff_inb (j : ℕ) : ∀ a, chunkOff L j a + S8x2048.size a ≤ S16384x2048.size a := by
  have h0 : (L 0).val < 2 := (L 0).isLt
  have h1 : (L 1).val < 16 := (L 1).isLt
  refine (Fin.forall_fin_two (p := fun a : Fin 2 => chunkOff L j a + S8x2048.size a ≤ S16384x2048.size a)).mpr ⟨?_, ?_⟩
  · show 8192 * (L 0).val + 512 * (L 1).val + 8 * (j % 64) + 8 ≤ 16384
    omega
  · show 0 + 2048 ≤ 2048
    omega

/-- The elements of chunk `j`. -/
abbrev chunkRect (j : ℕ) : Rect S16384x2048 := Rect.unit (s := S16384x2048) (chunkOff L j) S8x2048.size (chunkOff_inb L j)

/-- Chunk `j` of this subcore's rows, in the argument. -/
abbrev src (j : ℕ) : ChunkRef .hbm := (Memref.whole main_arg0_scv).slice (chunkRect L j) (fun _ => rfl)
/-- Chunk `j` of this subcore's rows, in the result. -/
abbrev dst (j : ℕ) : ChunkRef .hbm := (Memref.whole main_v0_scv).slice (chunkRect L j) (fun _ => rfl)

/-- A buffer of the ring that no copy uses. -/
def free (b : Fin 6) : sProp 𝕄 :=
  iprop(anyOf d L (buf b) ∗ semVal ((thr d L), .dma (sin b)) 0 ∗ semVal ((thr d L), .dma (sout b)) 0)
/-- Chunk `j`, not begun. -/
def pending (v : Chunk F) (j : ℕ) : sProp 𝕄 := iprop(owns (thr d L) (src L j) fullShare v ∗ anyOf d L (dst L j))
/-- Chunk `j`, on its way into buffer `b`. -/
def reading (v : Chunk F) (b : Fin 6) (j : ℕ) : sProp 𝕄 :=
  iprop(Transfers.Flight EC (thr d L) (.dma (sin b)) (default : HIx 1) (amt (buf b))
      iprop(owns (thr d L) (buf b) fullShare v ∗ owns (thr d L) (src L j) fullShare v)
    ∗ anyOf d L (dst L j) ∗ semVal ((thr d L), .dma (sout b)) 0)
/-- Chunk `j`, zeroed, on its way out of buffer `b`. -/
def writing (v : Chunk F) (b : Fin 6) (j : ℕ) : sProp 𝕄 :=
  iprop(owns (thr d L) (src L j) fullShare v ∗ semVal ((thr d L), .dma (sin b)) 0
    ∗ Transfers.Flight EC (thr d L) (.dma (sout b)) (default : HIx 1) (amt (dst L j))
      iprop(owns (thr d L) (dst L j) fullShare (zeroed v) ∗ owns (thr d L) (buf b) fullShare (zeroed v)))
/-- Chunk `j`, finished. -/
def finished (v : Chunk F) (j : ℕ) : sProp 𝕄 := iprop(owns (thr d L) (src L j) fullShare v ∗ owns (thr d L) (dst L j) fullShare (zeroed v))

/-- A copy in moves something, -/
theorem amt_buf_pos (b : Fin 6) : 0 < amt (buf b) := by
  revert b; decide
/-- and so does a copy out. -/
theorem amt_dst_pos (j : ℕ) : 0 < amt (dst L j) := by
  show 0 < (Memref.whole (sig := sig) main_v0_scv).view.ref.dmaCredit S8x2048 .f32
  decide

/-! ## One visit of a buffer

Trip `k` of the main loop visits buffer `k % 6`: it waits for chunk `k`, zeroes its rows, starts its way out; then, unless
fewer than four chunks are left, it waits until the buffer two places back (four ahead) is free and starts chunk `k + 4`
on its way in. -/

/-- The text of a visit of buffer `b`, whose predecessor by two is `b'`, before the statements `rest`. -/
def visit {α : Type} (b b' : Fin 6) (c1 c2 c3 : BitVec 1) (ow oo on : Fin 2 → ℕ)
    (hw : c1 = 1#1 → ∀ a, ow a + S8x2048.size a ≤ S16384x2048.size a)
    (ho : c1 = 1#1 → c2 = 1#1 → c3 = 1#1 → ∀ a, oo a + S8x2048.size a ≤ S16384x2048.size a)
    (hn : c1 = 1#1 → c2 = 1#1 → ∀ a, on a + S8x2048.size a ≤ S16384x2048.size a)
    (wb : (buf b).view.WordExact) (wb' : (buf b').view.WordExact)
    (ok : c1 = 1#1 → k0_t2_loop.OK) (body : c1 = 1#1 → Fin k0_t2_loop.trips → Unit → Prog (TpuEff nD τ sig (Elt F) Λ₀ (.scVector (cV L) (jV L))) Unit)
    (rest : PUnit.{1} → Prog (TpuEff nD τ sig (Elt F) Λ₀ (.scVector (cV L) (jV L))) α) :
    Prog (TpuEff nD τ sig (Elt F) Λ₀ (.scVector (cV L) (jV L))) α := do
  if h1 : c1 = 1#1 then do
    Prog.lift (.waitDma2 (sin b) ((Memref.whole main_arg0_scv).slice (Rect.unit (s := S16384x2048) ow S8x2048.size (hw h1)) (fun _ => rfl)) (buf b)
      (View.wordExact_bits rfl) wb)
    Scf.Loop.for k0_t2_loop (ok h1) ⟨⟩ (body h1)
    Prog.lift (.enqueueDma (buf b) (.here ((Memref.whole main_v0_scv).slice (Rect.unit (s := S16384x2048) ow S8x2048.size (hw h1)) (fun _ => rfl)))
      (.dma (sout b)) wb (View.wordExact_bits rfl) ⟨Or.inl rfl, trivial⟩)
    if h2 : c2 = 1#1 then do
      if h3 : c3 = 1#1 then do
        Prog.lift (.waitDma2 (sout b') (buf b') ((Memref.whole main_v0_scv).slice (Rect.unit (s := S16384x2048) oo S8x2048.size (ho h1 h2 h3)) (fun _ => rfl))
          wb' (View.wordExact_bits rfl))
        pure ⟨⟩
      else do
        pure ⟨⟩
      Prog.lift (.enqueueDma ((Memref.whole main_arg0_scv).slice (Rect.unit (s := S16384x2048) on S8x2048.size (hn h1 h2)) (fun _ => rfl)) (.here (buf b'))
        (.dma (sin b')) (View.wordExact_bits rfl) wb' ⟨Or.inl rfl, trivial⟩)
      pure ⟨⟩
    else do
      pure ⟨⟩
    pure ⟨⟩
  else do
    pure ⟨⟩
  rest ⟨⟩

end Rules

end Cert.KernelIdeal.Task

end
-- ==== Proof.IdealScRing.lean ====
/-
  The ring of six buffers: a visit of a buffer, and where every chunk stands before each trip of the main loop.
-/
module

public import proofs.«01_k».proof.Proof.IdealScTile
public import Idealize.SL.BI.BigOpNat

@[expose] public section

noncomputable section

namespace Cert.KernelIdeal.Task

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## Where chunks stand

The chunks' stages are counted from two: stage `j + 2` is chunk `j`'s, and stages 0 and 1 are those of the two buffers no
chunk has used yet. Stage `i` goes through buffer `(i + 4) % 6`. -/

/-- The buffer of stage `i`. -/
def slot (i : ℕ) : Fin 6 := ⟨(i + 4) % 6, Nat.mod_lt _ (by omega)⟩

/-- What is held of stage `i` before trip `k`. -/
def stage (v : ℕ → Chunk F) (k i : ℕ) : sProp 𝕄 :=
  if i < 2 then (if k ≤ i then free d L (slot i) else iprop(emp))
  else if k + 6 ≤ i then pending d L (v (i - 2)) (i - 2)
  else if k + 2 ≤ i then reading d L (v (i - 2)) (slot i) (i - 2)
  else if k ≤ i ∨ 60 ≤ i then writing d L (v (i - 2)) (slot i) (i - 2)
  else finished d L (v (i - 2)) (i - 2)

/-- Everything held before trip `k`. -/
def ring (v : ℕ → Chunk F) (k : ℕ) : sProp 𝕄 := bigSep (Finset.range 66) (stage d L v k)

variable {d L} {v : ℕ → Chunk F}

/-- Before its first use a buffer is free. -/
theorem stage_free {k i : ℕ} (h : i < 2) (h' : k ≤ i) : stage d L v k i = free d L (slot i) := by
  rw [stage, if_pos h, if_pos h']
/-- A buffer's first use is over once its trip is. -/
theorem stage_gone {k i : ℕ} (h : i < 2) (h' : i < k) : stage d L v k i = iprop(emp) := by
  rw [stage, if_pos h, if_neg (by omega)]
/-- A chunk four or more ahead of the trip has not begun. -/
theorem stage_pending {k i : ℕ} (h : 2 ≤ i) (h' : k + 6 ≤ i) : stage d L v k i = pending d L (v (i - 2)) (i - 2) := by
  rw [stage, if_neg (by omega), if_pos h']
/-- The chunk of the trip and the three after it are on their way in. -/
theorem stage_reading {k i : ℕ} (h : k + 2 ≤ i) (h' : i < k + 6) : stage d L v k i = reading d L (v (i - 2)) (slot i) (i - 2) := by
  rw [stage, if_neg (by omega), if_neg (by omega), if_pos h]
/-- The two chunks before the trip, and the last six once visited, are on their way out. -/
theorem stage_writing {k i : ℕ} (h : 2 ≤ i) (h' : i < k + 2) (h'' : k ≤ i ∨ 60 ≤ i) :
    stage d L v k i = writing d L (v (i - 2)) (slot i) (i - 2) := by
  rw [stage, if_neg (by omega), if_neg (by omega), if_neg (by omega), if_pos h'']
/-- A chunk further behind, not of the last six, is finished. -/
theorem stage_finished {k i : ℕ} (h : 2 ≤ i) (h' : i < k) (h'' : i < 60) : stage d L v k i = finished d L (v (i - 2)) (i - 2) := by
  rw [stage, if_neg (by omega), if_neg (by omega), if_neg (by omega), if_neg (by omega)]

/-- A trip changes three stages at most. -/
theorem stage_succ {k i : ℕ} (h : i ≠ k) (h' : i ≠ k + 2) (h'' : i ≠ k + 6) : stage d L v k i = stage d L v (k + 1) i := by
  unfold stage
  have e1 : k ≤ i ↔ k + 1 ≤ i := by omega
  have e2 : k + 2 ≤ i ↔ k + 1 + 2 ≤ i := by omega
  have e3 : k + 6 ≤ i ↔ k + 1 + 6 ≤ i := by omega
  simp only [e1, e2, e3]

/-- The stages a trip with more than four chunks left does not touch. -/
def others (k : ℕ) : Finset ℕ := (((Finset.range 66).erase k).erase (k + 2)).erase (k + 6)

/-- Of the places, the three that a trip changes, apart from the others. -/
theorem split_three {k : ℕ} (hk : k < 60) (Φ : ℕ → sProp 𝕄) :
    bigSep (Finset.range 66) Φ = iprop(Φ k ∗ Φ (k + 2) ∗ Φ (k + 6) ∗ bigSep (others k) Φ) := by
  unfold others
  rw [SparseCore.bigSep_erase' (i := k) (by simp; omega), SparseCore.bigSep_erase' (i := k + 2) (by simp; omega),
    SparseCore.bigSep_erase' (i := k + 6) (by simp; omega)]

/-- The other places stand after the trip as they did before. -/
theorem others_succ {k : ℕ} : bigSep (others k) (stage d L v k) = bigSep (others k) (stage d L v (k + 1)) := by
  refine bigSep_congr fun i hi => ?_
  simp only [others, Finset.mem_erase] at hi
  exact stage_succ hi.2.2.1 hi.2.1 hi.1

/-- Of the places, one, apart from the others. -/
theorem split_one {i : ℕ} (hi : i < 66) (Φ : ℕ → sProp 𝕄) :
    bigSep (Finset.range 66) Φ = iprop(Φ i ∗ bigSep ((Finset.range 66).erase i) Φ) :=
  SparseCore.bigSep_erase' (by simpa using hi)

/-- In the last trips only the trip's own place changes. -/
theorem late_succ {k : ℕ} (hk : 60 ≤ k) :
    bigSep ((Finset.range 66).erase (k + 2)) (stage d L v k) = bigSep ((Finset.range 66).erase (k + 2)) (stage d L v (k + 1)) := by
  refine bigSep_congr fun i hi => ?_
  simp only [Finset.mem_erase, Finset.mem_range] at hi
  by_cases h : i = k
  · rw [stage_writing (by omega) (by omega) (by omega), stage_writing (by omega) (by omega) (by omega)]
  · exact stage_succ h hi.1 (by omega)

/-! ## A visit -/

variable (d L)

/-- The zeroing loop leaves the chunk zeroed. -/
theorem wp_zeroLoop {α : Type} (B : ChunkRef .vmem) (ok : k0_t2_loop.OK) (u : Chunk F)
    (body : Fin k0_t2_loop.trips → Unit → Prog (TpuEff nD τ sig (Elt F) Λ₀ (.scVector (cV L) (jV L))) Unit)
    (hbody : ∀ (t : Fin k0_t2_loop.trips) (w : Chunk F), (owns (thr d L) B fullShare (zeroedTo t.val w) : sProp 𝕄)
      ⊢ wp frame (wpE (defs₀ (F := F)) 𝒱₀ (thr d L) none) Set.univ (body t ⟨⟩) fun _ => owns (thr d L) B fullShare (zeroedTo (t.val + 1) w))
    {k : PUnit → Prog (TpuEff nD τ sig (Elt F) Λ₀ (.scVector (cV L) (jV L))) α} {Q : α → sProp 𝕄} :
    owns (thr d L) B fullShare u
      ⊢ iprop((owns (thr d L) B fullShare (zeroed u) -∗ wp frame (wpE (defs₀ (F := F)) 𝒱₀ (thr d L) none) Set.univ (k ⟨⟩) Q)
        -∗ wp frame (wpE (defs₀ (F := F)) 𝒱₀ (thr d L) none) Set.univ (Scf.Loop.for k0_t2_loop ok ⟨⟩ body >>= k) Q) := by
  have ht : Scf.trips k0_t2_loop.lb k0_t2_loop.ub k0_t2_loop.st = 32 := by decide +kernel
  iintro H Hk
  iapply (Scf.wp_for_bind frame (wpE (defs₀ (F := F)) 𝒱₀ (thr d L) none) Set.univ _ _ _ ok _ body
    (fun t _ => owns (thr d L) B fullShare (zeroedTo t u)) (fun t _ => hbody t u)) $$ [H]
  · rw [zeroedTo_zero]
    iexact H
  iintro %_ H
  iapply Hk
  rw [ht, zeroedTo_end]
  iexact H

/-- The first half of a visit: the chunk comes in, is zeroed, and starts out. -/
theorem wp_turn {α : Type} (b : Fin 6) (j : ℕ) (u : Chunk F) (O : CellTallies nD τ sig (HIx 1)) (W : Waits sig (HIx 1)) (ok : k0_t2_loop.OK)
    (body : Fin k0_t2_loop.trips → Unit → Prog (TpuEff nD τ sig (Elt F) Λ₀ (.scVector (cV L) (jV L))) Unit)
    (hbody : ∀ (t : Fin k0_t2_loop.trips) (w : Chunk F), (owns (thr d L) (buf b) fullShare (zeroedTo t.val w) : sProp 𝕄)
      ⊢ wp frame (wpE (defs₀ (F := F)) 𝒱₀ (thr d L) none) Set.univ (body t ⟨⟩) fun _ => owns (thr d L) (buf b) fullShare (zeroedTo (t.val + 1) w))
    {h1 h2 h3 h4 h5}
    {k : PUnit → Prog (TpuEff nD τ sig (Elt F) Λ₀ (.scVector (cV L) (jV L))) α} {Q : α → sProp 𝕄} :
    iprop(reading d L u b j ∗ Owing d L O W)
      ⊢ iprop((iprop(writing d L u b j ∗ Owing d L O W) -∗ wp frame (wpE (defs₀ (F := F)) 𝒱₀ (thr d L) none) Set.univ (k ⟨⟩) Q)
        -∗ wp frame (wpE (defs₀ (F := F)) 𝒱₀ (thr d L) none) Set.univ
          (Prog.lift (.waitDma2 (sin b) (src L j) (buf b) h1 h2) >>= fun _ => Scf.Loop.for k0_t2_loop ok ⟨⟩ body >>= fun _ =>
            Prog.lift (.enqueueDma (buf b) (.here (dst L j)) (.dma (sout b)) h3 h4 h5) >>= fun x => k x) Q) := by
  unfold reading
  iintro ⟨⟨Hf, Hd, Hs⟩, HO⟩ Hk
  iapply (wp_await d L (src L j) (buf b) (sin b) _ rfl _ O W) $$ [Hf HO]
  · isplitl [Hf]; · iexact Hf
    iexact HO
  iintro ⟨⟨HB, HX⟩, Hi, HO⟩
  iapply (wp_zeroLoop d L (buf b) ok u body hbody) $$ HB
  iintro HB
  iapply (wp_start d L (buf b) (dst L j) (sout b) (zeroed u) (amt_dst_pos L j)) $$ [HB Hd Hs]
  · isplitl [HB]; · iexact HB
    isplitl [Hd]; · iexact Hd
    iexact Hs
  iintro Hf
  iapply Hk
  unfold writing
  isplitr [HO]
  · isplitl [HX]; · iexact HX
    isplitl [Hi]; · iexact Hi
    iexact Hf
  iexact HO

/-- The second half of a visit where the other buffer is still on its way out: its chunk is finished, and the next comes in. -/
theorem wp_swap {α : Type} (b : Fin 6) (j j' : ℕ) (u u' : Chunk F) (M : ChunkRef .hbm) (hM : amt M = amt (dst L j)) (O : CellTallies nD τ sig (HIx 1)) (W : Waits sig (HIx 1))
    {h1 h2 h3 h4 h5}
    {k : PUnit → Prog (TpuEff nD τ sig (Elt F) Λ₀ (.scVector (cV L) (jV L))) α} {Q : α → sProp 𝕄} :
    iprop(writing d L u b j ∗ pending d L u' j' ∗ Owing d L O W)
      ⊢ iprop((iprop(finished d L u j ∗ reading d L u' b j' ∗ Owing d L O W) -∗ wp frame (wpE (defs₀ (F := F)) 𝒱₀ (thr d L) none) Set.univ (k ⟨⟩) Q)
        -∗ wp frame (wpE (defs₀ (F := F)) 𝒱₀ (thr d L) none) Set.univ
          (Prog.lift (.waitDma2 (sout b) (buf b) M h1 h2) >>= fun _ =>
            Prog.lift (.enqueueDma (src L j') (.here (buf b)) (.dma (sin b)) h3 h4 h5) >>= fun x => k x) Q) := by
  unfold writing pending
  iintro ⟨⟨HX, Hi, Hf⟩, ⟨HX', Hd⟩, HO⟩ Hk
  iapply (wp_await d L (buf b) M (sout b) (amt (dst L j)) hM _ O W) $$ [Hf HO]
  · isplitl [Hf]; · iexact Hf
    iexact HO
  iintro ⟨⟨HY, HB⟩, Hs, HO⟩
  iapply (wp_start d L (src L j') (buf b) (sin b) u' (amt_buf_pos b)) $$ [HX' HB Hi]
  · isplitl [HX']; · iexact HX'
    isplitl [HB]
    · unfold anyOf; iexists _; iexact HB
    iexact Hi
  iintro Hf
  iapply Hk
  unfold finished reading
  isplitl [HX HY]
  · isplitl [HX]; · iexact HX
    iexact HY
  isplitr [HO]
  · isplitl [Hf]; · iexact Hf
    isplitl [Hd]; · iexact Hd
    iexact Hs
  iexact HO

/-- Filling a buffer no copy uses. -/
theorem wp_fill {α : Type} (b : Fin 6) (j' : ℕ) (u' : Chunk F) {h3 h4 h5}
    {k : PUnit → Prog (TpuEff nD τ sig (Elt F) Λ₀ (.scVector (cV L) (jV L))) α} {Q : α → sProp 𝕄} :
    iprop(free d L b ∗ pending d L u' j')
      ⊢ iprop((reading d L u' b j' -∗ wp frame (wpE (defs₀ (F := F)) 𝒱₀ (thr d L) none) Set.univ (k ⟨⟩) Q)
        -∗ wp frame (wpE (defs₀ (F := F)) 𝒱₀ (thr d L) none) Set.univ
          (Prog.lift (.enqueueDma (src L j') (.here (buf b)) (.dma (sin b)) h3 h4 h5) >>= fun x => k x) Q) := by
  unfold free pending
  iintro ⟨⟨HB, Hi, Hs⟩, HX, Hd⟩ Hk
  iapply (wp_start d L (src L j') (buf b) (sin b) u' (amt_buf_pos b)) $$ [HX HB Hi]
  · isplitl [HX]; · iexact HX
    isplitl [HB]; · iexact HB
    iexact Hi
  iintro Hf
  iapply Hk
  unfold reading
  isplitl [Hf]; · iexact Hf
  isplitl [Hd]; · iexact Hd
  iexact Hs

/-- A visit by the trip whose buffer it is: from what is held before the trip to what is held after it. -/
theorem wp_visit {α : Type} (k : ℕ) (hk : k < 64) (v : ℕ → Chunk F) (O : CellTallies nD τ sig (HIx 1)) (W : Waits sig (HIx 1))
    (b b' : Fin 6) (hb : b = slot (k + 2)) (hb' : b' = slot k) (c1 c2 c3 : BitVec 1) (ow oo on : Fin 2 → ℕ) (e1 : c1 = 1#1) (e2 : c2 = 1#1 ↔ k < 60)
    (e3 : c3 = 1#1 ↔ 2 ≤ k) (ew : ow = chunkOff L k) (en : k < 60 → on = chunkOff L (k + 4))
    {hw ho hn wb wb' ok body}
    (hbody : ∀ (h : c1 = 1#1) (t : Fin k0_t2_loop.trips) (w : Chunk F), (owns (thr d L) (buf b) fullShare (zeroedTo t.val w) : sProp 𝕄)
      ⊢ wp frame (wpE (defs₀ (F := F)) 𝒱₀ (thr d L) none) Set.univ (body h t ⟨⟩) fun _ => owns (thr d L) (buf b) fullShare (zeroedTo (t.val + 1) w))
    {rest : PUnit.{1} → Prog (TpuEff nD τ sig (Elt F) Λ₀ (.scVector (cV L) (jV L))) α} {Q : α → sProp 𝕄} :
    iprop(ring d L v k ∗ Owing d L O W)
      ⊢ iprop((iprop(ring d L v (k + 1) ∗ Owing d L O W) -∗ wp frame (wpE (defs₀ (F := F)) 𝒱₀ (thr d L) none) Set.univ (rest ⟨⟩) Q)
        -∗ wp frame (wpE (defs₀ (F := F)) 𝒱₀ (thr d L) none) Set.univ (visit L b b' c1 c2 c3 ow oo on hw ho hn wb wb' ok body rest) Q) := by
  subst hb hb' ew
  unfold visit
  rw [dif_pos e1]
  dsimp only
  have er : stage d L v k (k + 2) = reading d L (v k) (slot (k + 2)) k := stage_reading (by omega) (by omega)
  have ew : stage d L v (k + 1) (k + 2) = writing d L (v k) (slot (k + 2)) k := stage_writing (by omega) (by omega) (by omega)
  by_cases h2 : k < 60
  · have es : slot (k + 6) = slot k := Fin.ext (by simp only [slot]; omega)
    have ep : stage d L v k (k + 6) = pending d L (v (k + 4)) (k + 4) := stage_pending (by omega) (by omega)
    have ea : stage d L v (k + 1) (k + 6) = reading d L (v (k + 4)) (slot k) (k + 4) := by
      rw [stage_reading (by omega) (by omega), es]; rfl
    rw [dif_pos (e2.mpr h2), ring, ring, split_three h2, split_three h2, others_succ, er, ew, ep, ea]
    have en := en h2
    subst en
    by_cases h3 : 2 ≤ k
    · have eb : stage d L v k k = writing d L (v (k - 2)) (slot k) (k - 2) := stage_writing h3 (by omega) (by omega)
      have ec : stage d L v (k + 1) k = finished d L (v (k - 2)) (k - 2) := stage_finished h3 (by omega) h2
      rw [dif_pos (e3.mpr h3), eb, ec]
      iintro ⟨⟨Ha, Hr, Hp, Hrest⟩, HO⟩ Hk
      iapply (wp_turn d L (slot (k + 2)) k (v k) O W _ _ (hbody e1)) $$ [Hr HO]
      · isplitl [Hr]; · iexact Hr
        iexact HO
      iintro ⟨Hr, HO⟩
      iapply (wp_swap d L (slot k) (k - 2) (k + 4) (v (k - 2)) (v (k + 4))
        ((Memref.whole main_v0_scv).slice (Rect.unit (s := S16384x2048) oo S8x2048.size (ho e1 (e2.mpr h2) (e3.mpr h3))) (fun _ => rfl)) rfl O W) $$ [Ha Hp HO]
      · isplitl [Ha]; · iexact Ha
        isplitl [Hp]; · iexact Hp
        iexact HO
      iintro ⟨Ha, Hp, HO⟩
      iapply Hk
      isplitr [HO]
      · isplitl [Ha]; · iexact Ha
        isplitl [Hr]; · iexact Hr
        isplitl [Hp]; · iexact Hp
        iexact Hrest
      iexact HO
    · rw [dif_neg (mt e3.mp h3), stage_free (k := k) (by omega) (le_refl k), stage_gone (by omega) (by omega)]
      iintro ⟨⟨Ha, Hr, Hp, Hrest⟩, HO⟩ Hk
      iapply (wp_turn d L (slot (k + 2)) k (v k) O W _ _ (hbody e1)) $$ [Hr HO]
      · isplitl [Hr]; · iexact Hr
        iexact HO
      iintro ⟨Hr, HO⟩
      iapply (wp_fill d L (slot k) (k + 4) (v (k + 4))) $$ [Ha Hp]
      · isplitl [Ha]; · iexact Ha
        iexact Hp
      iintro Hp
      iapply Hk
      isplitr [HO]
      · isplitl []; · iempintro
        isplitl [Hr]; · iexact Hr
        isplitl [Hp]; · iexact Hp
        iexact Hrest
      iexact HO
  · rw [dif_neg (mt e2.mp h2), ring, ring, split_one (i := k + 2) (by omega), split_one (i := k + 2) (by omega), late_succ (by omega), er, ew]
    iintro ⟨⟨Hr, Hrest⟩, HO⟩ Hk
    iapply (wp_turn d L (slot (k + 2)) k (v k) O W _ _ (hbody e1)) $$ [Hr HO]
    · isplitl [Hr]; · iexact Hr
      iexact HO
    iintro ⟨Hr, HO⟩
    iapply Hk
    isplitr [HO]
    · isplitl [Hr]; · iexact Hr
      iexact Hrest
    iexact HO

/-- How many trips' work is done when trip `k` has passed its visits of the buffers below `b`. -/
def mid (b k : ℕ) : ℕ := if k % 6 < b then k + 1 else k

/-- Before the first visit the trip has done nothing, -/
theorem mid_zero (k : ℕ) : mid 0 k = k := if_neg (Nat.not_lt_zero _)
/-- and after the sixth it is over. -/
theorem mid_six (k : ℕ) : mid 6 k = k + 1 := if_pos (Nat.mod_lt _ (by omega))

/-- A visit in trip `k`, of its own buffer or of another. -/
theorem wp_step {α : Type} (k : ℕ) (hk : k < 64) (v : ℕ → Chunk F) (O : CellTallies nD τ sig (HIx 1)) (W : Waits sig (HIx 1))
    (b b' : Fin 6) (hb' : b'.val = (b.val + 4) % 6) (c1 c2 c3 : BitVec 1) (ow oo on : Fin 2 → ℕ) (e1 : c1 = 1#1 ↔ k % 6 = b.val) (e2 : c2 = 1#1 ↔ k < 60)
    (e3 : c3 = 1#1 ↔ 2 ≤ k) (ew : ow = ![8192 * (L 0).val + 512 * (L 1).val + 8 * k, 0])
    (en : on = ![8192 * (L 0).val + 512 * (L 1).val + 8 * k + 32, 0])
    {hw ho hn wb wb' ok body}
    (hbody : ∀ (h : c1 = 1#1) (t : Fin k0_t2_loop.trips) (w : Chunk F), (owns (thr d L) (buf b) fullShare (zeroedTo t.val w) : sProp 𝕄)
      ⊢ wp frame (wpE (defs₀ (F := F)) 𝒱₀ (thr d L) none) Set.univ (body h t ⟨⟩) fun _ => owns (thr d L) (buf b) fullShare (zeroedTo (t.val + 1) w))
    {rest : PUnit.{1} → Prog (TpuEff nD τ sig (Elt F) Λ₀ (.scVector (cV L) (jV L))) α} {Q : α → sProp 𝕄}
    (hrest : iprop(ring d L v (mid (b.val + 1) k) ∗ Owing d L O W) ⊢ wp frame (wpE (defs₀ (F := F)) 𝒱₀ (thr d L) none) Set.univ (rest ⟨⟩) Q) :
    iprop(ring d L v (mid b.val k) ∗ Owing d L O W)
      ⊢ wp frame (wpE (defs₀ (F := F)) 𝒱₀ (thr d L) none) Set.univ (visit L b b' c1 c2 c3 ow oo on hw ho hn wb wb' ok body rest) Q := by
  by_cases h : k % 6 = b.val
  · rw [show mid (b.val + 1) k = k + 1 from if_pos (by omega)] at hrest
    rw [show mid b.val k = k from if_neg (by omega)]
    iintro H
    iapply (wp_visit d L k hk v O W b b' (Fin.ext (by simp only [slot]; omega)) (Fin.ext (by simp only [slot]; omega)) c1 c2 c3 ow oo on (e1.mpr h) e2 e3
      (by rw [ew, chunkOff, Nat.mod_eq_of_lt hk]) (fun h2 => by rw [en, chunkOff, Nat.mod_eq_of_lt (by omega)]; congr 1) hbody) $$ H
    iintro H
    iapply hrest
    iexact H
  · have hm : mid (b.val + 1) k = mid b.val k := by
      unfold mid
      by_cases h' : k % 6 < b.val
      · rw [if_pos h', if_pos (by omega)]
      · rw [if_neg h', if_neg (by omega)]
    rw [hm] at hrest
    unfold visit
    rw [dif_neg (mt e1.mp h)]
    exact hrest

/-! ## Before and after the main loop -/

/-- The first copies in: as `wp_fill`, at an offset that is the chunk's. -/
theorem wp_first {α : Type} (b : Fin 6) (j : ℕ) (u : Chunk F) (off : Fin 2 → ℕ) (e : off = chunkOff L j) {inb h3 h4 h5}
    {k : PUnit → Prog (TpuEff nD τ sig (Elt F) Λ₀ (.scVector (cV L) (jV L))) α} {Q : α → sProp 𝕄} :
    iprop(free d L b ∗ pending d L u j)
      ⊢ iprop((reading d L u b j -∗ wp frame (wpE (defs₀ (F := F)) 𝒱₀ (thr d L) none) Set.univ (k ⟨⟩) Q)
        -∗ wp frame (wpE (defs₀ (F := F)) 𝒱₀ (thr d L) none) Set.univ
          (Prog.lift (.enqueueDma ((Memref.whole main_arg0_scv).slice (Rect.unit (s := S16384x2048) off S8x2048.size inb) (fun _ => rfl)) (.here (buf b))
            (.dma (sin b)) h3 h4 h5) >>= fun x => k x) Q) := by
  subst e
  exact wp_fill d L b j u

/-- The last copies out: the chunk is finished and the buffer free. -/
theorem wp_last {α : Type} (b : Fin 6) (j : ℕ) (u : Chunk F) (off : Fin 2 → ℕ) (O : CellTallies nD τ sig (HIx 1))
    (W : Waits sig (HIx 1)) {inb h1 h2}
    {k : PUnit → Prog (TpuEff nD τ sig (Elt F) Λ₀ (.scVector (cV L) (jV L))) α} {Q : α → sProp 𝕄} :
    iprop(writing d L u b j ∗ Owing d L O W)
      ⊢ iprop((iprop(finished d L u j ∗ free d L b ∗ Owing d L O W) -∗ wp frame (wpE (defs₀ (F := F)) 𝒱₀ (thr d L) none) Set.univ (k ⟨⟩) Q)
        -∗ wp frame (wpE (defs₀ (F := F)) 𝒱₀ (thr d L) none) Set.univ
          (Prog.lift (.waitDma2 (sout b) (buf b) ((Memref.whole main_v0_scv).slice (Rect.unit (s := S16384x2048) off S8x2048.size inb) (fun _ => rfl)) h1 h2)
            >>= fun x => k x) Q) := by
  unfold writing
  iintro ⟨⟨HX, Hi, Hf⟩, HO⟩ Hk
  iapply (wp_await d L (buf b) ((Memref.whole main_v0_scv).slice (Rect.unit (s := S16384x2048) off S8x2048.size inb) (fun _ => rfl)) (sout b) (amt (dst L j)) rfl _ O W) $$ [Hf HO]
  · isplitl [Hf]; · iexact Hf
    iexact HO
  iintro ⟨⟨HY, HB⟩, Hs, HO⟩
  iapply Hk
  unfold finished free anyOf
  isplitl [HX HY]
  · isplitl [HX]; · iexact HX
    iexact HY
  isplitr [HO]
  · isplitl [HB]; · iexists _; iexact HB
    isplitl [Hi]; · iexact Hi
    iexact Hs
  iexact HO

/-- A family over `0 .. n` is its first member and the rest. -/
theorem range_head (n : ℕ) (Φ : ℕ → sProp 𝕄) :
    bigSep (Finset.range (n + 1)) Φ = iprop(Φ 0 ∗ bigSep (Finset.range n) fun i => Φ (i + 1)) := by
  rw [Finset.range_add_one', SparseCore.bigSep_insert' (by simp), bigSep_map]
  rfl

/-- A family over six is its six members. -/
theorem fin_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, SparseCore.bigSep_insert' (by decide), SparseCore.bigSep_insert' (by decide),
    SparseCore.bigSep_insert' (by decide), SparseCore.bigSep_insert' (by decide), SparseCore.bigSep_insert' (by decide), bigSep_singleton]

/-- Before the first trip: chunks 0 to 3 on their way in, two buffers free, the other chunks not begun. -/
theorem ring_start (v : ℕ → Chunk F) :
    ring d L v 0 = iprop(free d L 4 ∗ free d L 5 ∗ reading d L (v 0) 0 0 ∗ reading d L (v 1) 1 1 ∗ reading d L (v 2) 2 2 ∗ reading d L (v 3) 3 3
      ∗ bigSep (Finset.range 60) fun i => pending d L (v (i + 4)) (i + 4)) := by
  rw [ring, range_head, range_head, range_head, range_head, range_head, range_head, stage_free (by omega) (by omega), stage_free (by omega) (by omega),
    stage_reading (by omega) (by omega), stage_reading (by omega) (by omega), stage_reading (by omega) (by omega), stage_reading (by omega) (by omega),
    bigSep_congr (Ψ := fun i => pending d L (v (i + 4)) (i + 4)) fun i _ =>
      (stage_pending (i := i + 6) (by omega) (by omega)).trans (by rw [show i + 6 - 2 = i + 4 by omega])]
  rfl

/-- The chunks not begun, the first four apart. -/
theorem pending_split (v : ℕ → Chunk F) :
    bigSep (Finset.range 64) (fun j => pending d L (v j) j) = iprop(pending d L (v 0) 0 ∗ pending d L (v 1) 1 ∗ pending d L (v 2) 2 ∗ pending d L (v 3) 3
      ∗ bigSep (Finset.range 60) fun i => pending d L (v (i + 4)) (i + 4)) := by
  rw [range_head, range_head, range_head, range_head]

/-- After the last trip: six chunks on their way out, the others finished. -/
theorem ring_end (v : ℕ → Chunk F) :
    ring d L v 64 = iprop(writing d L (v 63) 3 63 ∗ writing d L (v 62) 2 62 ∗ writing d L (v 61) 1 61 ∗ writing d L (v 60) 0 60 ∗ writing d L (v 59) 5 59
      ∗ writing d L (v 58) 4 58 ∗ emp ∗ emp ∗ bigSep (Finset.range 58) fun j => finished d L (v j) j) := by
  rw [ring, bigSep_range_succ, bigSep_range_succ, bigSep_range_succ, bigSep_range_succ, bigSep_range_succ, bigSep_range_succ, range_head, range_head,
    stage_writing (by omega) (by omega) (by omega), stage_writing (by omega) (by omega) (by omega), stage_writing (by omega) (by omega) (by omega),
    stage_writing (by omega) (by omega) (by omega), stage_writing (by omega) (by omega) (by omega), stage_writing (by omega) (by omega) (by omega),
    stage_gone (by omega) (by omega), stage_gone (by omega) (by omega),
    bigSep_congr (Ψ := fun j => finished d L (v j) j) fun i hi =>
      have hi : i < 58 := Finset.mem_range.mp hi
      (stage_finished (i := i + 2) (by omega) (by omega) (by omega)).trans (by rw [show i + 2 - 2 = i by omega])]
  rfl

/-- The finished chunks, the last six apart. -/
theorem finished_split (v : ℕ → Chunk F) :
    bigSep (Finset.range 64) (fun j => finished d L (v j) j) = iprop(finished d L (v 63) 63 ∗ finished d L (v 62) 62 ∗ finished d L (v 61) 61
      ∗ finished d L (v 60) 60 ∗ finished d L (v 59) 59 ∗ finished d L (v 58) 58 ∗ bigSep (Finset.range 58) fun j => finished d L (v j) j) := by
  rw [bigSep_range_succ, bigSep_range_succ, bigSep_range_succ, bigSep_range_succ, bigSep_range_succ, bigSep_range_succ]

end Cert.KernelIdeal.Task

end
-- ==== Proof.IdealScTask.lean ====
/-
  The task of one vector subcore, start to end: its chunks of the argument come in, and go out with their rows zeroed.
-/
module

public import proofs.«01_k».proof.Proof.IdealScRing

@[expose] public section

noncomputable section

namespace Cert.KernelIdeal.Task

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The body at the launch's operands -/

/-- A piece of the body at the operands the launch hands it: the argument, the result, the ring's buffers and semaphores. -/
abbrev atLaunch {α : Sort*}
    (f : (arg2 : Memref sig .scVector .hbm S16384x2048 .f32) → arg2.IsWhole → (arg3 : Memref sig .scVector .hbm S16384x2048 .f32) → arg3.IsWhole →
      (arg4 : ChunkRef .vmem) → arg4.IsWhole → (arg5 : ChunkRef .vmem) → arg5.IsWhole → (arg6 : ChunkRef .vmem) → arg6.IsWhole →
      (arg7 : ChunkRef .vmem) → arg7.IsWhole → (arg8 : ChunkRef .vmem) → arg8.IsWhole → (arg9 : ChunkRef .vmem) → arg9.IsWhole →
      DmaSems sig S_ → DmaSems sig S_ → DmaSems sig S_ → DmaSems sig S_ → DmaSems sig S_ → DmaSems sig S_ →
      DmaSems sig S_ → DmaSems sig S_ → DmaSems sig S_ → DmaSems sig S_ → DmaSems sig S_ → DmaSems sig S_ → α) : α :=
  f (Memref.whole main_arg0_scv) (Memref.isWhole_whole _) (Memref.whole main_v0_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11
    cc0_scratch12 cc0_scratch13 cc0_scratch14 cc0_scratch15 cc0_scratch16 cc0_scratch17

variable (d : Dev nD) (L : grid0.Coords)

/-! ## One trip -/

/-- The outer loop makes 64 trips, one for each chunk. -/
theorem trips_lt (k : Fin k0_t1_loop.trips) : k.val < 64 := lt_of_lt_of_eq k.isLt (by decide +kernel)

/-- The first part of a trip is the visits of buffers 0 and 1. -/
theorem part7_visits (v2 : BitVec 32) (k : Fin k0_t1_loop.trips) :
    ∃ w, atLaunch (k0_part7 (F := F) L) v2 k0_pay45 0#32 1#32 k =
      visit L 0 4 (k0_cond1 k) (k0_cond2 k) (k0_cond3 k) (k0_off2 L k) (k0_off5 L k) (k0_off6 L k)
        (k0_off2_inb L k) (k0_off5_inb L k) (k0_off6_inb L k) (Memref.isWhole_whole _).wordExact (Memref.isWhole_whole _).wordExact (k0_t2_ok k)
        (atLaunch (k0_t2_body (F := F) L) v2 k0_pay45 0#32 1#32 k) fun _ => visit L 1 5 (k0_cond4 k) (k0_cond5 k) (k0_cond6 k) (k0_off7 L k) (k0_off10 L k) (k0_off11 L k)
        (k0_off7_inb L k) (k0_off10_inb L k) (k0_off11_inb L k) (Memref.isWhole_whole _).wordExact (Memref.isWhole_whole _).wordExact (k0_t3_ok k)
        (atLaunch (k0_t3_body (F := F) L) v2 k0_pay45 0#32 1#32 k) fun _ => pure w := by
  rw [atLaunch, k0_part7_eq_skeleton]
  unfold k0_part7_skel visit
  dsimp only
  exact ⟨_, rfl⟩

/-- The second part is the visits of buffers 2 to 4. -/
theorem part8_visits (v2 : BitVec 32) (k : Fin k0_t1_loop.trips) (a1 a2 : BitVec 32) (a3 : BitVec 1) (a4 : BitVec 32) :
    ∃ w, atLaunch (k0_part8 (F := F) L) v2 k0_pay45 k a1 a2 a3 a4 =
      visit L 2 0 (k0_cond7 k) (k0_cond8 k) (k0_cond9 k) (k0_off12 L k) (k0_off15 L k) (k0_off16 L k)
        (k0_off12_inb L k) (k0_off15_inb L k) (k0_off16_inb L k) (Memref.isWhole_whole _).wordExact (Memref.isWhole_whole _).wordExact (k0_t4_ok k)
        (atLaunch (k0_t4_body (F := F) L) v2 k0_pay45 k a1 a2 a3 a4) fun _ => visit L 3 1 (k0_cond10 k) (k0_cond11 k) (k0_cond12 k) (k0_off17 L k) (k0_off20 L k) (k0_off21 L k)
        (k0_off17_inb L k) (k0_off20_inb L k) (k0_off21_inb L k) (Memref.isWhole_whole _).wordExact (Memref.isWhole_whole _).wordExact (k0_t5_ok k)
        (atLaunch (k0_t5_body (F := F) L) v2 k0_pay45 k a1 a2 a3 a4) fun _ => visit L 4 2 (k0_cond13 k) (k0_cond14 k) (k0_cond15 k) (k0_off22 L k) (k0_off25 L k) (k0_off26 L k)
        (k0_off22_inb L k) (k0_off25_inb L k) (k0_off26_inb L k) (Memref.isWhole_whole _).wordExact (Memref.isWhole_whole _).wordExact (k0_t6_ok k)
        (atLaunch (k0_t6_body (F := F) L) v2 k0_pay45 k a1 a2 a3 a4) fun _ => pure w := by
  rw [atLaunch, k0_part8_eq_skeleton]
  unfold k0_part8_skel visit
  dsimp only
  exact ⟨_, rfl⟩

/-- A trip is its two parts and the visit of buffer 5. -/
theorem trip_visits (v2 : BitVec 32) (k : Fin k0_t1_loop.trips) :
    atLaunch (k0_t1_body (F := F) L) v2 k ⟨⟩ = (atLaunch (k0_part7 (F := F) L) v2 k0_pay45 0#32 1#32 k >>= fun p =>
      atLaunch (k0_part8 (F := F) L) v2 k0_pay45 k p.1 p.2.1 p.2.2.1 p.2.2.2 >>= fun _ =>
      visit L 5 3 (k0_cond16 k) (k0_cond17 k) (k0_cond18 k) (k0_off27 L k) (k0_off30 L k) (k0_off31 L k)
        (k0_off27_inb L k) (k0_off30_inb L k) (k0_off31_inb L k) (Memref.isWhole_whole _).wordExact (Memref.isWhole_whole _).wordExact (k0_t7_ok k)
        (atLaunch (k0_t7_body (F := F) L) k) fun _ => pure ⟨⟩) := by
  unfold atLaunch k0_t1_body visit
  rfl

/-- The visit of buffer `b` is in the trips `k ≡ b` modulo 6. -/
theorem own_trip : ∀ k : Fin k0_t1_loop.trips,
    (k0_cond1 k = 1#1 ↔ k.val % 6 = 0) ∧ (k0_cond4 k = 1#1 ↔ k.val % 6 = 1) ∧ (k0_cond7 k = 1#1 ↔ k.val % 6 = 2)
      ∧ (k0_cond10 k = 1#1 ↔ k.val % 6 = 3) ∧ (k0_cond13 k = 1#1 ↔ k.val % 6 = 4) ∧ (k0_cond16 k = 1#1 ↔ k.val % 6 = 5) := by
  decide +kernel

/-- All trips but the last four begin another chunk. -/
theorem fills_again : ∀ k : Fin k0_t1_loop.trips,
    (k0_cond2 k = 1#1 ↔ k.val < 60) ∧ (k0_cond5 k = 1#1 ↔ k.val < 60) ∧ (k0_cond8 k = 1#1 ↔ k.val < 60)
      ∧ (k0_cond11 k = 1#1 ↔ k.val < 60) ∧ (k0_cond14 k = 1#1 ↔ k.val < 60) ∧ (k0_cond17 k = 1#1 ↔ k.val < 60) := by
  decide +kernel

/-- The first two trips find the next buffer free. -/
theorem past_two : ∀ k : Fin k0_t1_loop.trips,
    (k0_cond3 k = 1#1 ↔ 2 ≤ k.val) ∧ (k0_cond6 k = 1#1 ↔ 2 ≤ k.val) ∧ (k0_cond9 k = 1#1 ↔ 2 ≤ k.val)
      ∧ (k0_cond12 k = 1#1 ↔ 2 ≤ k.val) ∧ (k0_cond15 k = 1#1 ↔ 2 ≤ k.val) ∧ (k0_cond18 k = 1#1 ↔ 2 ≤ k.val) := by
  decide +kernel

variable (k : Fin k0_t1_loop.trips) (v : ℕ → Chunk F) (O : CellTallies nD τ sig (HIx 1)) (W : Waits sig (HIx 1)) (v2 : BitVec 32)

/-- A program that has ended. -/
theorem wp_done {α : Type} (a : α) (Q : α → sProp 𝕄) :
    Q a ⊢ wp frame (wpE (defs₀ (F := F)) 𝒱₀ (thr d L) none) Set.univ
      (pure a : Prog (TpuEff nD τ sig (Elt F) Λ₀ (.scVector (cV L) (jV L))) α) Q := by
  rw [wp_pure]
  iintro H
  imodintro
  iexact H

/-- The first part of a trip takes the ring past buffers 0 and 1, -/
theorem wp_part7 :
    iprop(ring d L v (mid 0 k.val) ∗ Owing d L O W)
      ⊢ wp frame (wpE (defs₀ (F := F)) 𝒱₀ (thr d L) none) Set.univ
          (atLaunch (k0_part7 (F := F) L) v2 k0_pay45 0#32 1#32 k) fun _ => iprop(ring d L v (mid 2 k.val) ∗ Owing d L O W) := by
  obtain ⟨w, e⟩ := part7_visits (F := F) L v2 k
  rw [e]
  refine wp_step d L k.val (trips_lt k) v O W 0 4 rfl _ _ _ _ _ _ (own_trip k).1 (fills_again k).1 (past_two k).1
    (k0_off2_eq L k) (k0_off6_eq L k)
    (fun h t w => wp_zeroTrip d L (buf 0) _ _ (fun r => k0_off3_inb k t h r) (fun r => k0_off4_inb k t h r) (fun _ => k0_pay1 k0_pay45) (fun _ _ => rfl) t.val
      (k0_off3_eq t) (k0_off4_eq t) w) (?_)
  refine wp_step d L k.val (trips_lt k) v O W 1 5 rfl _ _ _ _ _ _ (own_trip k).2.1 (fills_again k).2.1 (past_two k).2.1
    (k0_off7_eq L k) (k0_off11_eq L k)
    (fun h t w => wp_zeroTrip d L (buf 1) _ _ (fun r => k0_off8_inb k t h r) (fun r => k0_off9_inb k t h r) (fun _ => k0_pay1 k0_pay45) (fun _ _ => rfl) t.val
      (k0_off8_eq t) (k0_off9_eq t) w) (?_)
  exact wp_done d L w fun _ => iprop(ring d L v (mid 2 k.val) ∗ Owing d L O W)

/-- and the second past buffers 2 to 4. -/
theorem wp_part8 (a1 a2 : BitVec 32) (a3 : BitVec 1) (a4 : BitVec 32) :
    iprop(ring d L v (mid 2 k.val) ∗ Owing d L O W)
      ⊢ wp frame (wpE (defs₀ (F := F)) 𝒱₀ (thr d L) none) Set.univ
          (atLaunch (k0_part8 (F := F) L) v2 k0_pay45 k a1 a2 a3 a4) fun _ => iprop(ring d L v (mid 5 k.val) ∗ Owing d L O W) := by
  obtain ⟨w, e⟩ := part8_visits (F := F) L v2 k a1 a2 a3 a4
  rw [e]
  refine wp_step d L k.val (trips_lt k) v O W 2 0 rfl _ _ _ _ _ _ (own_trip k).2.2.1 (fills_again k).2.2.1 (past_two k).2.2.1
    (k0_off12_eq L k) (k0_off16_eq L k)
    (fun h t w => wp_zeroTrip d L (buf 2) _ _ (fun r => k0_off13_inb k t h r) (fun r => k0_off14_inb k t h r) (fun _ => k0_pay1 k0_pay45) (fun _ _ => rfl) t.val
      (k0_off13_eq t) (k0_off14_eq t) w) (?_)
  refine wp_step d L k.val (trips_lt k) v O W 3 1 rfl _ _ _ _ _ _ (own_trip k).2.2.2.1 (fills_again k).2.2.2.1 (past_two k).2.2.2.1
    (k0_off17_eq L k) (k0_off21_eq L k)
    (fun h t w => wp_zeroTrip d L (buf 3) _ _ (fun r => k0_off18_inb k t h r) (fun r => k0_off19_inb k t h r) (fun _ => k0_pay1 k0_pay45) (fun _ _ => rfl) t.val
      (k0_off18_eq t) (k0_off19_eq t) w) (?_)
  refine wp_step d L k.val (trips_lt k) v O W 4 2 rfl _ _ _ _ _ _ (own_trip k).2.2.2.2.1 (fills_again k).2.2.2.2.1 (past_two k).2.2.2.2.1
    (k0_off22_eq L k) (k0_off26_eq L k)
    (fun h t w => wp_zeroTrip d L (buf 4) _ _ (fun r => k0_off23_inb k t h r) (fun r => k0_off24_inb k t h r) (fun _ => k0_pay1 k0_pay45) (fun _ _ => rfl) t.val
      (k0_off23_eq t) (k0_off24_eq t) w) (?_)
  exact wp_done d L w fun _ => iprop(ring d L v (mid 5 k.val) ∗ Owing d L O W)

/-- A trip moves the ring on by one chunk. -/
theorem wp_trip :
    iprop(ring d L v (k.val) ∗ Owing d L O W)
      ⊢ wp frame (wpE (defs₀ (F := F)) 𝒱₀ (thr d L) none) Set.univ
          (atLaunch (k0_t1_body (F := F) L) v2 k ⟨⟩) fun _ => iprop(ring d L v (k.val + 1) ∗ Owing d L O W) := by
  rw [trip_visits]
  refine BIBase.Entails.trans ?_ (Entails.of_eq (wp_bind ..).symm)
  refine ((Entails.of_eq (by rw [mid_zero])).trans (wp_part7 d L k v O W v2)).trans (wp_mono _ _ _ (fun p => ?_))
  refine BIBase.Entails.trans ?_ (Entails.of_eq (wp_bind ..).symm)
  refine (wp_part8 d L k v O W v2 p.1 p.2.1 p.2.2.1 p.2.2.2).trans (wp_mono _ _ _ (fun _ => ?_))
  refine wp_step d L k.val (trips_lt k) v O W 5 3 rfl _ _ _ _ _ _ (own_trip k).2.2.2.2.2 (fills_again k).2.2.2.2.2 (past_two k).2.2.2.2.2
    (k0_off27_eq L k) (k0_off31_eq L k)
    (fun h t w => wp_zeroTrip d L (buf 5) _ _ (fun r => k0_off28_inb k t h r) (fun r => k0_off29_inb k t h r) (fun _ => k0_pay1 k0_pay45) (fun _ _ => rfl) t.val
      (k0_off28_eq t) (k0_off29_eq t) w) (?_)
  exact (Entails.of_eq (congrArg (fun n => iprop(ring d L v n ∗ Owing d L O W)) (mid_six k.val))).trans (wp_done d L PUnit.unit fun _ => iprop(ring d L v (k.val + 1) ∗ Owing d L O W))

/-! ## The whole task -/

/-- The first four chunks are where the copies ahead of the loop find them. -/
theorem starts : ∀ i : grid0.Coords, k0_off1 i 0#32 = chunkOff i 0 ∧ k0_off1 i 8#32 = chunkOff i 1 ∧ k0_off1 i 16#32 = chunkOff i 2
    ∧ k0_off1 i 24#32 = chunkOff i 3 := by
  decide +kernel

/-- The task of one vector subcore: the chunks it is given to read and to write, its buffers free, give its chunks written with their rows zeroed, the argument's
    chunks as they were and its buffers free again. -/
theorem wp_task :
    iprop(bigSep (Finset.range 64) (fun j => pending d L (v j) j) ∗ bigSep Finset.univ (free (F := F) d L) ∗ Owing d L O W)
      ⊢ wp frame (wpE (defs₀ (F := F)) 𝒱₀ (thr d L) none) Set.univ (atLaunch (cc0__sc_body (F := F) L)) fun _ =>
        iprop(bigSep (Finset.range 64) (fun j => finished d L (v j) j) ∗ bigSep Finset.univ (free (F := F) d L) ∗ Owing d L O W) := by
  rw [atLaunch, cc0__sc_body_eq_skeleton]
  unfold cc0__sc_body_skel
  rw [k0_part9_eq_skeleton]
  unfold k0_part9_skel
  simp only [bind_assoc, pure_bind]
  rw [pending_split, finished_split, fin_six]
  iintro ⟨⟨P0, P1, P2, P3, PT⟩, ⟨F0, F1, F2, F3, F4, F5⟩, HO⟩
  iapply (wp_first d L 0 0 (v 0) _ (starts L).1) $$ [F0 P0]
  · isplitl [F0]; · iexact F0
    iexact P0
  iintro R0
  iapply (wp_first d L 1 1 (v 1) _ (starts L).2.1) $$ [F1 P1]
  · isplitl [F1]; · iexact F1
    iexact P1
  iintro R1
  iapply (wp_first d L 2 2 (v 2) _ (starts L).2.2.1) $$ [F2 P2]
  · isplitl [F2]; · iexact F2
    iexact P2
  iintro R2
  iapply (wp_first d L 3 3 (v 3) _ (starts L).2.2.2) $$ [F3 P3]
  · isplitl [F3]; · iexact F3
    iexact P3
  iintro R3
  iapply (Scf.wp_for_bind frame (wpE (defs₀ (F := F)) 𝒱₀ (thr d L) none) Set.univ _ _ _ k0_t1_ok _ _ (fun t _ => iprop(ring d L v t ∗ Owing d L O W))
    (fun t _ => wp_trip d L t v O W _)) $$ [F4 F5 R0 R1 R2 R3 PT HO]
  · rw [ring_start]
    isplitr [HO]
    · isplitl [F4]; · iexact F4
      isplitl [F5]; · iexact F5
      isplitl [R0]; · iexact R0
      isplitl [R1]; · iexact R1
      isplitl [R2]; · iexact R2
      isplitl [R3]; · iexact R3
      iexact PT
    iexact HO
  rw [show Scf.trips _ _ _ = 64 from by decide +kernel, ring_end]
  iintro %_ ⟨⟨G63, G62, G61, G60, G59, G58, _, _, FT⟩, HO⟩
  iapply (wp_last d L 4 58 (v 58) _ O W) $$ [G58 HO]
  · isplitl [G58]; · iexact G58
    iexact HO
  iintro ⟨Y58, F4, HO⟩
  iapply (wp_last d L 5 59 (v 59) _ O W) $$ [G59 HO]
  · isplitl [G59]; · iexact G59
    iexact HO
  iintro ⟨Y59, F5, HO⟩
  iapply (wp_last d L 0 60 (v 60) _ O W) $$ [G60 HO]
  · isplitl [G60]; · iexact G60
    iexact HO
  iintro ⟨Y60, F0, HO⟩
  iapply (wp_last d L 1 61 (v 61) _ O W) $$ [G61 HO]
  · isplitl [G61]; · iexact G61
    iexact HO
  iintro ⟨Y61, F1, HO⟩
  iapply (wp_last d L 2 62 (v 62) _ O W) $$ [G62 HO]
  · isplitl [G62]; · iexact G62
    iexact HO
  iintro ⟨Y62, F2, HO⟩
  iapply (wp_last d L 3 63 (v 63) _ O W) $$ [G63 HO]
  · isplitl [G63]; · iexact G63
    iexact HO
  iintro ⟨Y63, F3, HO⟩
  iapply (wp_done d L)
  isplitl [Y63 Y62 Y61 Y60 Y59 Y58 FT]
  · isplitl [Y63]; · iexact Y63
    isplitl [Y62]; · iexact Y62
    isplitl [Y61]; · iexact Y61
    isplitl [Y60]; · iexact Y60
    isplitl [Y59]; · iexact Y59
    isplitl [Y58]; · iexact Y58
    iexact FT
  isplitr [HO]
  · isplitl [F0]; · iexact F0
    isplitl [F1]; · iexact F1
    isplitl [F2]; · iexact F2
    isplitl [F3]; · iexact F3
    isplitl [F4]; · iexact F4
    iexact F5
  iexact HO

end Cert.KernelIdeal.Task

end
-- ==== Proof.IdealScShare.lean ====
/-
  The rows of the argument and of the result dealt to the vector subcores, chunk by chunk, and gathered again; and what of its own memory a
  subcore puts into the ring.
-/
module

public import proofs.«01_k».proof.Proof.IdealScTask

@[expose] public section

noncomputable section

namespace Cert.KernelIdeal.Task

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The chunks of all subcores are the array -/

/-- The grid point of vector subcore `i` of SparseCore `c`. -/
def point (c : Fin (grid0.bound 0)) (i : Fin (grid0.bound 1)) : grid0.Coords :=
  fun | 0 => c | 1 => i | ⟨_ + 2, h⟩ => absurd h (Nat.not_lt.2 (Nat.le_add_left _ _))

/-- A SparseCore, one of its vector subcores, one of that one's chunks. -/
abbrev Share : Type := Fin 2 × Fin 16 × Fin 64

/-- The part of the array a share names. -/
abbrev shareRect (t : Share) : Rect S16384x2048 := chunkRect (point t.1 t.2.1) t.2.2.val

/-- A row of the array is in the share its number names. -/
theorem mem_share (t : Share) (y : S16384x2048.Idx) :
    y ∈ (shareRect t).set ↔ 8192 * t.1.val + 512 * t.2.1.val + 8 * t.2.2.val ≤ (y 0).val ∧ (y 0).val < 8192 * t.1.val + 512 * t.2.1.val + 8 * t.2.2.val + 8 := by
  rw [Rect.mem_set_unit]
  refine (Fin.forall_fin_two (p := fun a : Fin 2 => chunkOff (point t.1 t.2.1) t.2.2.val a ≤ (y a).val
    ∧ (y a).val < chunkOff (point t.1 t.2.1) t.2.2.val a + S8x2048.size a)).trans ?_
  have h1 : (y 1).val < 2048 := (y 1).isLt
  have e : t.2.2.val % 64 = t.2.2.val := Nat.mod_eq_of_lt t.2.2.isLt
  show ((8192 * t.1.val + 512 * t.2.1.val + 8 * (t.2.2.val % 64) ≤ (y 0).val ∧ (y 0).val < 8192 * t.1.val + 512 * t.2.1.val + 8 * (t.2.2.val % 64) + 8)
    ∧ (0 ≤ (y 1).val ∧ (y 1).val < 0 + 2048)) ↔ _
  rw [e]
  omega

/-- Different shares have no element in common. -/
theorem share_disjoint (t t' : Share) (h : t ≠ t') : Disjoint (shareRect t).set (shareRect t').set := by
  refine Finset.disjoint_left.mpr fun y hy hy' => h ?_
  rw [mem_share] at hy hy'
  obtain ⟨c, i, j⟩ := t
  obtain ⟨c', i', j'⟩ := t'
  have := c.isLt; have := i.isLt; have := j.isLt
  have := c'.isLt; have := i'.isLt; have := j'.isLt
  simp only at hy hy'
  refine Prod.ext (Fin.ext ?_) (Prod.ext (Fin.ext ?_) (Fin.ext ?_)) <;> simp only <;> omega

/-- Every element of the array is in a share. -/
theorem share_cover : (Finset.univ : Finset Share).biUnion (fun t => (shareRect t).set) = Finset.univ := by
  refine Finset.eq_univ_of_forall fun y => ?_
  rw [Finset.mem_biUnion]
  have h : (y 0).val < 16384 := (y 0).isLt
  refine ⟨(⟨(y 0).val / 8192, by omega⟩, ⟨(y 0).val / 512 % 16, by omega⟩, ⟨(y 0).val / 8 % 64, by omega⟩), Finset.mem_univ _, ?_⟩
  rw [mem_share]
  simp only
  omega

/-- Chunk `j` of the array `f`. -/
def cut (f : S16384x2048.Idx → Elt F .f32) (L : grid0.Coords) (j : ℕ) : Chunk F := fun y => f ((chunkRect L j).emb y)

/-- The array with every row whose number is a multiple of four zeroed. -/
def everyFourth (f : S16384x2048.Idx → Elt F .f32) : S16384x2048.Idx → Elt F .f32 := fun y => if (y 0).val % 4 = 0 then zero else f y

/-- The chunks' rows begin at multiples of eight, so zeroing chunk by chunk zeroes the array's rows. -/
theorem zeroed_cut (f : S16384x2048.Idx → Elt F .f32) (L : grid0.Coords) (j : ℕ) : zeroed (cut f L j) = cut (everyFourth f) L j := by
  funext y
  have e : (((chunkRect L j).emb y) 0).val = 8192 * (L 0).val + 512 * (L 1).val + 8 * (j % 64) + 1 * (y 0).val := by rw [Rect.emb_apply]; rfl
  unfold zeroed cut everyFourth
  rw [e, show (8192 * (L 0).val + 512 * (L 1).val + 8 * (j % 64) + 1 * (y 0).val) % 4 = (y 0).val % 4 by omega]

/-- One conjunct for each number below `n`, as one for each element of `Fin n`. -/
theorem bigSep_fin (n : ℕ) (Φ : ℕ → sProp 𝕄) : bigSep Finset.univ (fun j : Fin n => Φ j.val) = bigSep (Finset.range n) Φ := by
  have e : Finset.range n = (Finset.univ : Finset (Fin n)).map Fin.valEmbedding := by
    ext i
    simp only [Finset.mem_range, Finset.mem_map, Finset.mem_univ, Fin.valEmbedding_apply, true_and]
    exact ⟨fun h => ⟨⟨i, h⟩, rfl⟩, fun ⟨j, h⟩ => h ▸ j.isLt⟩
  rw [e, SparseCore.bigSep_map]
  rfl

/-- What one subcore's chunks of `M` hold, `M` holding `f`. -/
def rowsOf (t : Thread nD τ) (M : Memref sig t.2.kind .hbm S16384x2048 .f32) (f : S16384x2048.Idx → Elt F .f32) (L : grid0.Coords) : sProp 𝕄 :=
  bigSep (Finset.range 64) fun j => owns t (M.slice (chunkRect L j) (fun _ => rfl)) fullShare (cut f L j)

/-- All subcores' chunks, as one family. -/
theorem rowsOf_all (t : Thread nD τ) (M : Memref sig t.2.kind .hbm S16384x2048 .f32) (f : S16384x2048.Idx → Elt F .f32) :
    (bigSep Finset.univ fun c : Fin 2 => bigSep Finset.univ fun i : Fin 16 => rowsOf t M f (point c i))
      = bigSep Finset.univ fun s : Share => owns t (M.slice (shareRect s) (fun _ => rfl)) fullShare fun y => f ((shareRect s).emb y) := by
  rw [bigSep_univ_prod]
  refine bigSep_congr fun c _ => ?_
  rw [bigSep_univ_prod]
  refine bigSep_congr fun i _ => ?_
  exact (bigSep_fin 64 fun j => owns t (M.slice (chunkRect (point c i) j) (fun _ => rfl)) fullShare (cut f (point c i) j)).symm

/-- A whole array is its chunks, dealt to the subcores, -/
theorem rows_deal (t : Thread nD τ) (M : Memref sig t.2.kind .hbm S16384x2048 .f32) (f : S16384x2048.Idx → Elt F .f32) :
    (owns t M fullShare f : sProp 𝕄) ⊢ bigSep Finset.univ fun c : Fin 2 => bigSep Finset.univ fun i : Fin 16 => rowsOf t M f (point c i) := by
  rw [rowsOf_all]
  exact owns_rects t M fullShare shareRect (fun _ _ => rfl) share_disjoint share_cover f

/-- and they gathered are the whole. -/
theorem rows_gather [∀ e, Nonempty (Elt F e)] (t : Thread nD τ) (M : Memref sig t.2.kind .hbm S16384x2048 .f32) (f : S16384x2048.Idx → Elt F .f32) :
    (bigSep Finset.univ fun c : Fin 2 => bigSep Finset.univ fun i : Fin 16 => rowsOf t M f (point c i)) ⊢ (owns t M fullShare f : sProp 𝕄) := by
  rw [rowsOf_all]
  exact owns_of_rects t M fullShare shareRect (fun _ _ => rfl) share_disjoint share_cover f

/-! ## What a task is given and brings back -/

/-- Its chunks of the argument `f` and of the result, to be overwritten. -/
def given (d : Dev nD) (f : S16384x2048.Idx → Elt F .f32) (L : grid0.Coords) : sProp 𝕄 :=
  bigSep (Finset.range 64) fun j => pending d L (cut f L j) j
/-- The same chunks, those of the result being the argument's with their rows zeroed. -/
def made (d : Dev nD) (f : S16384x2048.Idx → Elt F .f32) (L : grid0.Coords) : sProp 𝕄 :=
  bigSep (Finset.range 64) fun j => finished d L (cut f L j) j

/-- A chunk of the argument and the one of the result in the same place are a chunk not begun. -/
theorem pending_of (d : Dev nD) (L : grid0.Coords) (u w : Chunk F) (j : ℕ) :
    iprop(owns (thr d L) (src L j) fullShare u ∗ owns (thr d L) (dst L j) fullShare w) ⊢ pending d L u j := by
  unfold pending anyOf
  iintro ⟨HX, HY⟩
  isplitl [HX]; · iexact HX
  iexists _
  iexact HY

/-- A subcore's chunks of the argument and of the result are what its task is given. -/
theorem given_of_rows (d : Dev nD) (f g : S16384x2048.Idx → Elt F .f32) (L : grid0.Coords) :
    iprop(rowsOf (thr d L) (Memref.whole main_arg0_scv) f L ∗ rowsOf (thr d L) (Memref.whole main_v0_scv) g L) ⊢ given d f L := by
  unfold rowsOf given
  rw [← bigSep_sep']
  exact BI.bigSep_mono fun j _ => pending_of d L (cut f L j) (cut g L j) j

/-- What a task makes is its chunks of the argument and of the argument with its rows zeroed. -/
theorem rows_of_made (d : Dev nD) (f : S16384x2048.Idx → Elt F .f32) (L : grid0.Coords) :
    made d f L = iprop(rowsOf (thr d L) (Memref.whole main_arg0_scv) f L ∗ rowsOf (thr d L) (Memref.whole main_v0_scv) (everyFourth f) L) := by
  unfold rowsOf made
  rw [← bigSep_sep']
  refine bigSep_congr fun j _ => ?_
  unfold finished
  rw [zeroed_cut]

/-! ## The subcore's own memory -/

variable (d : Dev nD) (L : grid0.Coords)

/-- The ring's buffers, by name. -/
def bufRef : Fin 6 → Ref sig .scVector
  | 0 => cc0_scratch0
  | 1 => cc0_scratch1
  | 2 => cc0_scratch2
  | 3 => cc0_scratch3
  | 4 => cc0_scratch4
  | 5 => cc0_scratch5

/-- The semaphores of the ring, of the copies in and of the copies out. -/
def ringSem : Fin 6 ⊕ Fin 6 → GSem nD τ sig := Sum.elim (fun b => (thr d L, .dma (sin b))) (fun b => (thr d L, .dma (sout b)))

/-- The twelve semaphores are different. -/
theorem ringSem_injective : Function.Injective (ringSem d L) := by
  have h : ∀ p q : Fin 6 ⊕ Fin 6, Sum.elim sin sout p = Sum.elim sin sout q → p = q := by decide
  intro p q e
  refine h p q ?_
  rcases p with p | p <;> rcases q with q | q <;> simpa [ringSem] using e

/-- They are the subcore's own. -/
theorem ringSem_own : Finset.univ.image (ringSem d L) ⊆ ownCells (thr d L) := by
  have h : ∀ b : Fin 6, (SemLoc.dma (sin b) : SemLoc sig).isScoped .scVector = true ∧ (SemLoc.dma (sout b) : SemLoc sig).isScoped .scVector = true := by decide
  intro g hg
  obtain ⟨p, -, rfl⟩ := Finset.mem_image.mp hg
  rcases p with b | b
  · exact mem_ownCells.mpr ⟨rfl, (h b).1⟩
  · exact mem_ownCells.mpr ⟨rfl, (h b).2⟩

/-- Where on the device the subcore's buffers are. -/
def bufLoc (b : Fin 6) : DevRef τ sig := (thr d L).2.devRef (bufRef b)

/-- The six buffers are different. -/
theorem bufLoc_injective : Function.Injective (bufLoc d L) := by
  have h : ∀ p q : Fin 6, bufRef p = bufRef q → p = q := by decide
  exact fun p q e => h p q (Proc.devRef_injective _ e)

/-- They are the subcore's own. -/
theorem bufLoc_own : Finset.univ.image (bufLoc d L) ⊆ ownRefs (τ := τ) (thr d L).2 := by
  intro g hg
  obtain ⟨b, -, rfl⟩ := Finset.mem_image.mp hg
  exact SparseCore.Cfg.mem_ownRefs_of_owner (by fin_cases b <;> rfl)

/-- Owning a buffer as a chunk is owning it where it is on the device. -/
theorem anyOf_buf (b : Fin 6) : (anyOf d L (buf b) : sProp 𝕄) = iprop(∃ f, ((d, bufLoc d L b) : Loc nD τ sig) ↦{fullShare} f) := by
  unfold anyOf
  fin_cases b <;> (simp only [buf, owns_whole]; rfl)

/-- Five conjuncts regrouped. -/
theorem regroup (A B C D E : sProp 𝕄) : iprop((A ∗ B) ∗ (C ∗ D) ∗ E) = iprop((A ∗ C ∗ D) ∗ B ∗ E) := by
  have h₁ : iprop((A ∗ B) ∗ (C ∗ D) ∗ E) ⊢ iprop((A ∗ C ∗ D) ∗ B ∗ E) := by
    iintro ⟨⟨HA, HB⟩, ⟨HC, HD⟩, HE⟩
    isplitl [HA HC HD]
    · isplitl [HA]; · iexact HA
      isplitl [HC]; · iexact HC
      iexact HD
    isplitl [HB]; · iexact HB
    iexact HE
  have h₂ : iprop((A ∗ C ∗ D) ∗ B ∗ E) ⊢ iprop((A ∗ B) ∗ (C ∗ D) ∗ E) := by
    iintro ⟨⟨HA, HC, HD⟩, HB, HE⟩
    isplitl [HA HB]
    · isplitl [HA]; · iexact HA
      iexact HB
    isplitl [HC HD]
    · isplitl [HC]; · iexact HC
      iexact HD
    iexact HE
  exact BI.equiv_iff.mp ⟨h₁, h₂⟩

/-- The ring, free, is part of the subcore's own memory and semaphores: there is a remainder which with the ring makes them up. -/
theorem ring_own :
    ∃ R : sProp 𝕄, iprop(ownBufs (thr d L) ∗ ownSems0 (thr d L)) = iprop(bigSep Finset.univ (free (F := F) d L) ∗ R) := by
  refine ⟨iprop((bigSep (ownRefs (τ := τ) (thr d L).2 \ Finset.univ.image (bufLoc d L)) fun b => iprop(∃ f, ((d, b) : Loc nD τ sig) ↦{fullShare} f))
    ∗ bigSep (ownCells (thr d L) \ Finset.univ.image (ringSem d L)) fun g => semVal g 0), ?_⟩
  have e1 : (ownBufs (thr d L) : sProp 𝕄) = iprop(bigSep Finset.univ (fun b => anyOf d L (buf b))
      ∗ bigSep (ownRefs (τ := τ) (thr d L).2 \ Finset.univ.image (bufLoc d L)) fun b => iprop(∃ f, ((d, b) : Loc nD τ sig) ↦{fullShare} f)) := by
    unfold SparseCore.Cfg.ownBufs
    rw [SparseCore.bigSep_sdiff_split' (bufLoc_own d L), SparseCore.bigSep_image_of_injOn (bufLoc_injective d L).injOn,
      bigSep_congr fun b _ => anyOf_buf d L b]
  have e2 : (ownSems0 (thr d L) : sProp 𝕄) = iprop((bigSep Finset.univ (fun b => semVal (thr d L, .dma (sin b)) 0)
      ∗ bigSep Finset.univ (fun b => semVal (thr d L, .dma (sout b)) 0)) ∗ bigSep (ownCells (thr d L) \ Finset.univ.image (ringSem d L)) fun g => semVal g 0) := by
    unfold SparseCore.Cfg.ownSems0
    rw [SparseCore.bigSep_sdiff_split' (ringSem_own d L), SparseCore.bigSep_image_of_injOn (ringSem_injective d L).injOn, bigSep_univ_sum]
    rfl
  unfold free
  rw [e1, e2, bigSep_sep', bigSep_sep']
  exact regroup _ _ _ _ _

end Cert.KernelIdeal.Task

end
-- ==== Proof.IdealScLaunch.lean ====
/-
  The launch: what the SparseCores are handed and hand back, the subcore's obligation, and the run of the whole program with the value of its
  result.
-/
module

public import proofs.«01_k».proof.Proof.IdealScShare

@[expose] public section

noncomputable section

namespace Cert.KernelIdeal.Task

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the pipelined calls, of which this program has none. -/
abbrev ΛP : Labels := Pipeline.Sig Λ₀ (Fin 0) fun p => (pcfgs (F := F) p).Adm
/-- The launch of the SparseCore call. -/
abbrev K : SparseCore.Cfg τ sig (ΛP (F := F)) 1 := sc (F := F)
/-- What the labels below the launch run. -/
abbrev D [FloatOps F] : Defs nD τ sig (Elt F) (ΛP (F := F)) := Pipeline.defs pcfgs defs₀
/-- No loop of the program needs a variant. -/
abbrev 𝒱 : Variants := 𝒱₀.lift
/-- The variant of a program that needs none. -/
abbrev v₀ : 𝒱.V := Sum.inl none

/-- The handshake's semaphores are distinct and outlive the call, and no scratch buffer is shared by the tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

local notation "𝕄" => MT nD τ sig (HIx 1) (Elt F) ℕ UU ℕ

/-- The handshakes' part of the ghost state. -/
abbrev EH : Emb UH (MT nD τ sig (HIx 1) (Elt F) ℕ UU ℕ) := embL

/-- The argument, as device `d`'s TensorCore holds it. -/
abbrev xLoc (d : Dev nD) : Loc nD τ sig := (SparseCore.T d).loc main_arg0
/-- The result, as device `d`'s TensorCore holds it. -/
abbrev oLoc (d : Dev nD) : Loc nD τ sig := (SparseCore.T d).loc main_v0

variable (m : (ℓ : Loc nD τ sig) → Buf (Elt F) ℓ) (ρ : Dev nD → PrngReg)

/-- The argument on device `d`, as the launch finds it. -/
abbrev arg (d : Dev nD) : S16384x2048.Idx → Elt F .f32 := m (xLoc d)

variable [FloatOps F]

/-! ## What the handshakes carry -/

/-- An owned chunk may be handed over by a handshake, -/
instance anyOf_storable {sp : Space} (d : Dev nD) (L : grid0.Coords) (M : ChunkRef sp) : BI.Storable (upEmb : UEmb _ 𝕄) (anyOf d L M) := by
  unfold anyOf; infer_instance
/-- a chunk not begun may, -/
instance pending_storable (d : Dev nD) (L : grid0.Coords) (v : Chunk F) (j : ℕ) : BI.Storable (upEmb : UEmb _ 𝕄) (pending d L v j) := by
  unfold pending; infer_instance
/-- a finished one may, -/
instance finished_storable (d : Dev nD) (L : grid0.Coords) (v : Chunk F) (j : ℕ) : BI.Storable (upEmb : UEmb _ 𝕄) (finished d L v j) := by
  unfold finished; infer_instance
/-- and so may all that a task is given, -/
instance given_storable (d : Dev nD) (f : S16384x2048.Idx → Elt F .f32) (L : grid0.Coords) : BI.Storable (upEmb : UEmb _ 𝕄) (given d f L) := by
  unfold given; infer_instance
/-- and all that it makes. -/
instance made_storable (d : Dev nD) (f : S16384x2048.Idx → Elt F .f32) (L : grid0.Coords) : BI.Storable (upEmb : UEmb _ 𝕄) (made d f L) := by
  unfold made; infer_instance

/-- What the sixteen tasks of one SparseCore are given, and what they make. -/
def givenCore (d : Dev nD) (f : S16384x2048.Idx → Elt F .f32) (c : Fin 2) : sProp 𝕄 := bigSep Finset.univ fun i : Fin 16 => given d f (point c i)
/-- What those tasks make. -/
def madeCore (d : Dev nD) (f : S16384x2048.Idx → Elt F .f32) (c : Fin 2) : sProp 𝕄 := bigSep Finset.univ fun i : Fin 16 => made d f (point c i)

/-- What a SparseCore is given may be handed over by a handshake, -/
instance givenCore_storable (d : Dev nD) (f : S16384x2048.Idx → Elt F .f32) (c : Fin 2) : BI.Storable (upEmb : UEmb _ 𝕄) (givenCore d f c) := by
  unfold givenCore
  have h : ∀ i : Fin 16, BI.Storable (upEmb : UEmb _ 𝕄) (given d f (point c i)) := fun i => given_storable d f _
  infer_instance
/-- and what it makes. -/
instance madeCore_storable (d : Dev nD) (f : S16384x2048.Idx → Elt F .f32) (c : Fin 2) : BI.Storable (upEmb : UEmb _ 𝕄) (madeCore d f c) := by
  unfold madeCore
  have h : ∀ i : Fin 16, BI.Storable (upEmb : UEmb _ 𝕄) (made d f (point c i)) := fun i => made_storable d f _
  infer_instance

/-- A task is given its chunks, a SparseCore its sixteen subcores'; they bring them back done. -/
def P : (K (F := F)).Pay (nD := nD) (Val := Elt F) (Name := ℕ) (U := UU) where
  st := fun q d c => match q with | 0 => givenCore d (arg m d) c
  dn := fun q d c => match q with | 0 => madeCore d (arg m d) c
  go := fun q d c i => match q with | 0 => given d (arg m d) (point c i)
  td := fun q d c i => match q with | 0 => made d (arg m d) (point c i)
  x := fun _ _ => iprop(emp)

/-- Everything the handshakes carry may be handed over. -/
instance P_storable : (P (F := F) m).IsStorable where
  st q d c := match q with
    | 0 => (inferInstance : BI.Storable (upEmb : UEmb _ 𝕄) (givenCore d (arg m d) c))
  dn q d c := match q with
    | 0 => (inferInstance : BI.Storable (upEmb : UEmb _ 𝕄) (madeCore d (arg m d) c))
  go q d c i := match q with
    | 0 => (inferInstance : BI.Storable (upEmb : UEmb _ 𝕄) (given d (arg m d) (point c i)))
  td q d c i := match q with
    | 0 => (inferInstance : BI.Storable (upEmb : UEmb _ 𝕄) (made d (arg m d) (point c i)))

/-! ## The subcore's obligation -/

/-- The task from the subcore's own memory: it makes its chunks and leaves that memory and its semaphores as it found them. -/
theorem task_owned (hF : (K (F := F)).Facts) (d : Dev nD) (L : grid0.Coords) (f : S16384x2048.Idx → Elt F .f32)
    (O : CellTallies nD τ sig (HIx 1)) (W : Waits sig (HIx 1)) (hO : ∀ g, O g none = 0) :
    iprop(levAts (K (F := F)).L (K (F := F)).lev ∗ emp ∗ given d f L ∗ scopedBufs (thr d L) ∗ scopedSems0 (thr d L) ∗ owes (thr d L) O W)
      ⊢ wp frame (wpE (defs₀ (F := F)) 𝒱₀ (thr d L) none) Set.univ (atLaunch (cc0__sc_body (F := F) L)) fun _ =>
          iprop(made d f L ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  have task : iprop(given d f L ∗ bigSep Finset.univ (free (F := F) d L) ∗ Owing d L O W)
      ⊢ wp frame (wpE (defs₀ (F := F)) 𝒱₀ (thr d L) none) Set.univ (atLaunch (cc0__sc_body (F := F) L)) fun _ =>
        iprop(made d f L ∗ bigSep Finset.univ (free (F := F) d L) ∗ Owing d L O W) := wp_task d L (cut f L) O W
  obtain ⟨R, e⟩ := ring_own (F := F) d L
  iintro ⟨#Hlv, -, Hg, Hb, Hs, HO⟩
  ihave Hmw := (show levAts (K (F := F)).L (K (F := F)).lev ⊢ Transfers.MayWaits (thr d L) (default : HIx 1) O from
    (K (F := F)).mayWaits_none (thr := thr d L) hO) $$ Hlv
  ihave H := (Entails.of_eq e) $$ [Hb Hs]
  · isplitl [Hb]; · iexact Hb
    iexact Hs
  icases H with ⟨Hf, HR⟩
  iapply (wp_wand _ _ _) $$ [Hg Hf HO]
  · iapply task
    isplitl [Hg]; · iexact Hg
    isplitl [Hf]; · iexact Hf
    unfold Owing
    isplitr; · iexact Hmw
    iexists W
    isplitr
    · ipureintro; exact fun p hp => Or.inl hp
    iexact HO
  iintro %_ ⟨Hm, Hf, HO⟩
  ihave H := (Entails.of_eq e.symm) $$ [Hf HR]
  · isplitl [Hf]; · iexact Hf
    iexact HR
  icases H with ⟨Hb, Hs⟩
  unfold Owing
  icases HO with ⟨-, HO⟩
  isplitl [Hm]; · iexact Hm
  isplitl [Hb]; · iexact Hb
  isplitl [Hs]; · iexact Hs
  iexact HO

/-- A task that waited on its own copies only has waited on nothing the launch forbids. -/
theorem waits_weaken {thr : Thread nD τ} {A B C : sProp 𝕄} {O : CellTallies nD τ sig (HIx 1)} {W : Waits sig (HIx 1)}
    {X : SemLoc sig × HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ X p⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
/-- Every task of the call meets what the launch asks of it. -/
theorem obligation (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 ()
    = SparseCore.onTile hcore0 hsub0 (fun c i => atLaunch (cc0__sc_body (F := F) (point c i))) ⟨⟩ ((K (F := F)).core 0 c) ((K (F := F)).sub 0 i) from rfl]
  simp only [SparseCore.onTile, hci, and_self, ↓reduceDIte]
  refine BI.Entails.trans (task_owned hF d (point c i) (arg m d) O W hO) ?_
  exact wp_mono frame _ _ fun _ => waits_weaken

/-- What a SparseCore is given is what its tasks are, and what they make is what it hands back. -/
theorem vecSplit : (K (F := F)).VecSplit' (P m) 0 := by
  intro d c
  show givenCore d (arg m d) c ⊢ |={Set.univ}=> iprop(givenCore d (arg m d) c ∗ (madeCore d (arg m d) c -∗ madeCore d (arg m d) c))
  iintro H
  imodintro
  isplitl [H]; · iexact H
  iintro H
  iexact H

/-! ## The launch element of the certificate's ghost state -/

/-- The ghost state at the launch: the handshakes' rounds, and no transfer yet. -/
def u₀ : UU := (initOf (K (F := F)).hsCells (K (F := F)).hsToks, 1)

/-- The launch's ghost state gives the handshakes' cells; the program's own start needs nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  rw [show (bigSep (Finset.univ : Finset (Dev nD)) fun _ => iprop(emp)) = (iprop(emp) : sProp 𝕄) from bigSep_emp_const _,
    show (bigSep (Finset.univ : Finset (Thread nD τ)) fun _ => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

/-- The TensorCore's arrays are the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide, SparseCore.bigSep_insert' (by decide), bigSep_singleton]

/-- The subcore at whose addresses the arrays are dealt and gathered: they are every subcore's. -/
abbrev thr₀ (d : Dev nD) : Thread nD τ := thr d (point (0 : Fin 2) (0 : Fin 16))

/-- The argument and the result, dealt to the SparseCores' tasks. -/
theorem deal (d : Dev nD) (f g : S16384x2048.Idx → Elt F .f32) :
    iprop((xLoc d ↦{fullShare} f) ∗ (oLoc d ↦{fullShare} g)) ⊢ (bigSep Finset.univ fun c : Fin 2 => givenCore d f c : sProp 𝕄) := by
  have hx : (xLoc d ↦{fullShare} f : sProp 𝕄) = owns (thr₀ d) (Memref.whole main_arg0_scv) fullShare f := (owns_whole _ _ _ _).symm
  have ho : (oLoc d ↦{fullShare} g : sProp 𝕄) = owns (thr₀ d) (Memref.whole main_v0_scv) fullShare g := (owns_whole _ _ _ _).symm
  rw [hx, ho]
  iintro ⟨HX, HO⟩
  ihave HX := (rows_deal (thr₀ d) (Memref.whole main_arg0_scv) f) $$ HX
  ihave HO := (rows_deal (thr₀ d) (Memref.whole main_v0_scv) g) $$ HO
  iapply (show iprop((bigSep Finset.univ fun c : Fin 2 => bigSep Finset.univ fun i : Fin 16 => rowsOf (thr₀ d) (Memref.whole main_arg0_scv) f (point c i))
      ∗ (bigSep Finset.univ fun c : Fin 2 => bigSep Finset.univ fun i : Fin 16 => rowsOf (thr₀ d) (Memref.whole main_v0_scv) g (point c i)))
      ⊢ (bigSep Finset.univ fun c : Fin 2 => givenCore d f c : sProp 𝕄) from by
    rw [← bigSep_sep']
    refine BI.bigSep_mono fun c _ => ?_
    rw [← bigSep_sep']
    exact BI.bigSep_mono fun i _ => given_of_rows d f g (point c i))
  isplitl [HX]; · iexact HX
  iexact HO

/-- What the tasks made, gathered: the argument as it was, the result the argument with every fourth row zeroed. -/
theorem gather [∀ e, Nonempty (Elt F e)] (d : Dev nD) (f : S16384x2048.Idx → Elt F .f32) :
    (bigSep Finset.univ fun c : Fin 2 => madeCore d f c : sProp 𝕄) ⊢ iprop((xLoc d ↦{fullShare} f) ∗ (oLoc d ↦{fullShare} everyFourth f)) := by
  have hx : (xLoc d ↦{fullShare} f : sProp 𝕄) = owns (thr₀ d) (Memref.whole main_arg0_scv) fullShare f := (owns_whole _ _ _ _).symm
  have ho : (oLoc d ↦{fullShare} everyFourth f : sProp 𝕄) = owns (thr₀ d) (Memref.whole main_v0_scv) fullShare (everyFourth f) := (owns_whole _ _ _ _).symm
  have e : (bigSep Finset.univ fun c : Fin 2 => madeCore d f c : sProp 𝕄)
      = iprop((bigSep Finset.univ fun c : Fin 2 => bigSep Finset.univ fun i : Fin 16 => rowsOf (thr₀ d) (Memref.whole main_arg0_scv) f (point c i))
        ∗ bigSep Finset.univ fun c : Fin 2 => bigSep Finset.univ fun i : Fin 16 => rowsOf (thr₀ d) (Memref.whole main_v0_scv) (everyFourth f) (point c i)) := by
    rw [← bigSep_sep']
    refine bigSep_congr fun c _ => ?_
    unfold madeCore
    rw [← bigSep_sep']
    exact bigSep_congr fun i _ => rows_of_made d f (point c i)
  rw [hx, ho, e]
  iintro ⟨HX, HO⟩
  isplitl [HX]
  · iapply (rows_gather (thr₀ d) (Memref.whole main_arg0_scv) f)
    iexact HX
  iapply (rows_gather (thr₀ d) (Memref.whole main_v0_scv) (everyFourth f))
  iexact HO

/-- What the program leaves on device `d`: its argument, and its result. -/
abbrev left (d : Dev nD) : sProp 𝕄 := iprop((xLoc d ↦{fullShare} arg m d) ∗ (oLoc d ↦{fullShare} everyFourth (arg m d)))

/-- @main on device `d`'s TensorCore: the one call. -/
theorem wp_main [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · iapply (deal d (arg m d) (m (oLoc d)))
    isplitl [Hx]; · iexact Hx
    iexact Ho
  iintro ⟨Hst, Hdn⟩
  ihave Hdn := (show (bigSep Finset.univ fun c : Fin ((K (F := F)).nCore 0) => (P m).dn 0 d c : sProp 𝕄) ⊢ left m d from gather d (arg m d)) $$ Hdn
  imodintro
  isplitl [Hst]; · iexact Hst
  isplitl [Hdn]; · iexact Hdn
  isplitl [Hb]; · iexact Hb
  iexact Hts

/-! ## The run -/

/-- The final memory holds what the program leaves on device `d`. -/
def leftIn (d : Dev nD) (s : Phys nD τ sig (Elt F)) : Prop := s.mem.mem (xLoc d) = arg m d ∧ s.mem.mem (oLoc d) = everyFourth (arg m d)

set_option maxRecDepth 16384 in
/-- Owning what the program leaves says what the memory holds. -/
theorem leftIn_of_left (d : Dev nD) (s : Phys nD τ sig (Elt F)) : iprop(left m d ∗ SI s) ⊢ (⌜leftIn m d s⌝ : sProp 𝕄) := by
  iintro ⟨⟨HX, HO⟩, HSI⟩
  ihave H := (persistent_entails_right (SI_pointsTo_agree (st := s) (ℓ := xLoc d) (I := Finset.univ) (q := fullShare) (f := arg m d))) $$ [HSI HX]
  · isplitl [HSI]; · iexact HSI
    iexact HX
  icases H with ⟨%h1, HSI, -⟩
  ihave H := (SI_pointsTo_agree (st := s) (ℓ := oLoc d) (I := Finset.univ) (q := fullShare) (f := everyFourth (arg m d))) $$ [HSI HO]
  · isplitl [HSI]; · iexact HSI
    iexact HO
  icases H with %h2
  ipureintro
  exact ⟨funext fun i => h1 i (Finset.mem_univ i), funext fun i => h2 i (Finset.mem_univ i)⟩

/-- The whole program's run, from any memory: it ends, its result is the argument with every row whose number is a multiple of four zeroed, the argument is unchanged,
    and every semaphore is back at zero. -/
theorem run [∀ e, Nonempty (Elt F e)] :
    θ_run (Cert.KernelIdeal.defs (F := F)) (Cert.KernelIdeal.threads (F := F)) ⟨m, fun _ => 0, ρ⟩ fun r =>
      (∀ c : Dev nD, r.2.mem (xLoc c) = arg m c ∧ r.2.mem (oLoc c) = everyFourth (arg m c)) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => obligation m facts)
    (fun q _ => match q with | 0 => SparseCore.Cfg.VecSplit.of_plain (vecSplit m))
    m ρ main (fun _ => iprop(emp)) (left m) (u₀ (F := F)) (sep_elim_left.trans (hu₀ m)) (wp_main m ρ) (leftIn m) (leftIn_of_left m) _ (fun _ h hz => ⟨h, hz⟩)

end Cert.KernelIdeal.Task

end
-- ==== Proof.RefSide.lean ====
/-
  What the reference computes over the extended reals: the argument with every fourth row set to zero.
-/
module

public import proofs.«01_k».proof.Proof.Gen.ReferenceIdeal.Run
public import Idealize.ShloMosaic.PureOps.Ideal

@[expose] public section

noncomputable section

namespace Cert.RefSide

open Idealize.ShloMosaic Idealize.ShloMosaic.TcCoe Idealize.SL.Sem Cert.ReferenceIdeal

/-- The problem's function at an array of any element type: rows whose number is a multiple of four are replaced
    by `z`, the others are kept. -/
def everyFourth {α : Type} (z : α) (x : S16384x2048.Idx → α) : S16384x2048.Idx → α :=
  fun i => if (i 0).val % 4 = 0 then z else x i

/-- jnp's `row % 4 == 0` on words, at a row number. -/
def rowWord (v : BitVec 32) : BitVec 1 :=
  let r := IntOp.remsi .host v 4#32
  IntOp.cmpi .eq (Scalar.select (IntOp.cmpi .ne (IntOp.cmpi .slt r 0#32) (IntOp.cmpi .slt 4#32 0#32) &&& IntOp.cmpi .ne r 0#32)
    (r + 4#32) r) 0#32

/-- On the words of the row numbers, the test is divisibility by four. -/
theorem rowWord_eq (n : ℕ) (hn : n < 16384) : rowWord (BitVec.ofNat 32 n) = if n % 4 = 0 then 1#1 else 0#1 := by
  have hm : (BitVec.ofNat 32 n).msb = false := by
    rw [BitVec.msb_eq_false_iff_two_mul_lt, BitVec.toNat_ofNat]; omega
  have hr : IntOp.remsi .host (BitVec.ofNat 32 n) 4#32 = BitVec.ofNat 32 (n % 4) := by
    have hc : ¬ IntOp.SDivCorner (BitVec.ofNat 32 n) 4#32 := by
      rintro (h | ⟨-, h⟩) <;> revert h <;> decide
    rw [IntOp.remsi, if_neg hc, BitVec.srem_eq, hm, show (4#32 : BitVec 32).msb = false from rfl]
    apply BitVec.eq_of_toNat_eq
    show (BitVec.ofNat 32 n % 4#32).toNat = _
    rw [BitVec.toNat_umod, BitVec.toNat_ofNat, BitVec.toNat_ofNat, BitVec.toNat_ofNat]; norm_num; omega
  unfold rowWord
  rw [hr]
  have h4 : n % 4 < 4 := Nat.mod_lt _ (by norm_num)
  generalize n % 4 = k at h4
  interval_cases k <;> decide

/-- The composed term of the reference's run is `everyFourth`. -/
theorem value (x : FVec Ideal S16384x2048 .f32) (w : FVec Ideal S16384x2048 .f32)
    (hw : ∀ i, w i = Scalar.select (rowWord (BitVec.ofNat 32 (i 0).val)) (FloatOps.ofBits (F := Ideal) .f32 0x00000000#32) (FloatOps.ofBits (F := Ideal) .f32 0x3F800000#32)) :
    mulf x w = everyFourth (FloatOps.ofBits (F := Ideal) .f32 0x00000000#32) x := by
  have h0 : Ideal.ofBits .f32 0x00000000#32 = 0 := by simp [Ideal.ofBits, Ideal.ieee]
  have h1 : Ideal.ofBits .f32 0x3F800000#32 = 1 := by simp [Ideal.ofBits, Ideal.ieee, -EReal.coe_mul]; norm_num
  funext i
  show x i * w i = _
  rw [hw, rowWord_eq _ (i 0).isLt]
  unfold everyFourth
  simp only [Ideal.ofBits_def, h0, h1]
  split
  · rw [show Scalar.select 1#1 (0 : EReal) 1 = 0 from rfl]; exact mul_zero (x i : EReal)
  · rw [show Scalar.select 0#1 (0 : EReal) 1 = 1 from rfl]; exact mul_one (x i : EReal)

/-- The reference's run: its result is `everyFourth` of its argument, which it leaves unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = everyFourth (FloatOps.ofBits (F := Ideal) .f32 0x00000000#32) (m ((c.tc : Thread nD τ).loc main_arg0))
      ∧ r.2.mem ((c.tc : Thread nD τ).loc main_arg0) = m ((c.tc : Thread nD τ).loc main_arg0) :=
  (θ_run defs _ _).mono (fun _ h c => ⟨(h c).1.trans (value _ _ fun _ => rfl), (h c).2⟩) (Value.run m ρ)

end Cert.RefSide

end
-- ==== Proof.lean ====
module

public import proofs.«01_k».proof.Defs
public import proofs.«01_k».proof.Proof.ScLaunch
public import proofs.«01_k».proof.Proof.IdealScLaunch
public import proofs.«01_k».proof.Proof.RefSide
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- Every claim of the certificate: the kernel, its idealization and the reference run to the end with their argument unchanged and their semaphores at zero,
    the idealization is the kernel's own text, and idealization and reference end with the same array: the argument with every fourth row zeroed. -/
theorem claim : Cert.Claim := ⟨Cert.Kernel.Gen.facts, Cert.KernelIdeal.Gen.facts, Cert.ReferenceIdeal.Gen.facts,
  fun m ρ _ => (θ_run _ _ _).mono (fun _ h => ⟨fun c => (h.1 c).1, h.2⟩) (Cert.Kernel.Task.run m ρ),
  fun m ρ _ => (θ_run _ _ _).mono (fun _ h => ⟨fun c => (h.1 c).1, h.2⟩) (Cert.KernelIdeal.Task.run m ρ),
  fun m ρ _ => (θ_run _ _ _).mono (fun r h => ⟨fun c => (h c).2, sem_eq_zero_of_no_sems (by decide) r.2⟩)
    (Cert.RefSide.run m ρ),
  trivial,
  by
    intro m g m' g' _ hm
    refine ⟨fun c => Cert.KernelIdeal.Task.everyFourth (Cert.KernelIdeal.Task.arg m c),
      (θ_run _ _ _).mono (fun _ h c => ⟨(h.1 c).2, (h.1 c).1⟩) (Cert.KernelIdeal.Task.run m g), ?_⟩
    refine (θ_run _ _ _).mono (fun r h c => ⟨(h c).1.trans ?_, (h c).2⟩) (Cert.RefSide.run m' g')
    rw [hm c]
    rfl⟩

end Cert.Proof

end
